-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_batch_and_finite [hPre_one_batch_and_finite : Cert.Pre_one_batch_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_one_batch_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_one_batch_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_one_batch_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_one_batch_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_one_batch_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_one_batch_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_batch_and_finite [hPre_one_batch_and_finite : Cert.Pre_one_batch_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_batch_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_one_batch_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_one_batch_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_one_batch_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_one_batch_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_one_batch_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_one_batch_and_finite [hKernelIdeal : Cert.KernelIdeal.Facts] [hPre_one_batch_and_finite : Cert.Pre_one_batch_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_batch_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_one_batch_and_finite [hReferenceIdeal : Cert.ReferenceIdeal.Facts] [hPre_one_batch_and_finite : Cert.Pre_one_batch_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_batch_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_one_batch_and_finite [hKernelIdeal : Cert.KernelIdeal.Facts] [hReferenceIdeal : Cert.ReferenceIdeal.Facts] [hPre_one_batch_and_finite : Cert.Pre_one_batch_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_batch_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_arg4)) (v2 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg4) = v1 c
          ∧ r.2.mem ((c.tc : Thread Cert.KernelIdeal.nD Cert.KernelIdeal.τ).loc Cert.KernelIdeal.main_arg5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg4) = v1 c
          ∧ r.2.mem ((c.tc : Thread Cert.ReferenceIdeal.nD Cert.ReferenceIdeal.τ).loc Cert.ReferenceIdeal.main_arg5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_one_batch_and_finite : Cert.Pre_one_batch_and_finite.Facts),
    quiescent_Kernel (hKernel := hKernel)
    ∧ quiescent_KernelIdeal (hKernelIdeal := hKernelIdeal)
    ∧ quiescent_KernelIdeal_pre_one_batch_and_finite (hKernelIdeal := hKernelIdeal) (hPre_one_batch_and_finite := hPre_one_batch_and_finite)
    ∧ quiescent_ReferenceIdeal (hReferenceIdeal := hReferenceIdeal)
    ∧ quiescent_ReferenceIdeal_pre_one_batch_and_finite (hReferenceIdeal := hReferenceIdeal) (hPre_one_batch_and_finite := hPre_one_batch_and_finite)
    ∧ preserves_Kernel_KernelIdeal
    ∧ algebraic_KernelIdeal_ReferenceIdeal_pre_one_batch_and_finite (hKernelIdeal := hKernelIdeal) (hReferenceIdeal := hReferenceIdeal) (hPre_one_batch_and_finite := hPre_one_batch_and_finite)
-- ==== Pre_one_batch_and_finite.lean ====
abbrev S4096x256 : Shape := ⟨2, ![4096, 256]⟩
abbrev S4096x3 : Shape := ⟨2, ![4096, 3]⟩
abbrev S4096 : Shape := ⟨1, ![4096]⟩
abbrev S16384x128 : Shape := ⟨2, ![16384, 128]⟩
abbrev S16384x3 : Shape := ⟨2, ![16384, 3]⟩
abbrev S16384 : Shape := ⟨1, ![16384]⟩
abbrev S384x384 : Shape := ⟨2, ![384, 384]⟩
abbrev S384 : Shape := ⟨1, ![384]⟩
abbrev S384x256 : Shape := ⟨2, ![384, 256]⟩
abbrev S256 : Shape := ⟨1, ![256]⟩
abbrev S1 : Shape := ⟨1, ![1]⟩
abbrev S_ : Shape := ⟨0, ![]⟩

class Facts : Prop where
  slices_S4096_S1_0 : S4096.Slices ![0] S1
  shapeCasts_S1_S_ : S1.ShapeCasts S_
  bcast_S_S4096 : S_.BroadcastsInDim S4096 (![] : Fin 0 → Fin S4096.rank)
  bcast_S_S16384 : S_.BroadcastsInDim S16384 (![] : Fin 0 → Fin S16384.rank)
  bcast_S_S4096x3 : S_.BroadcastsInDim S4096x3 (![] : Fin 0 → Fin S4096x3.rank)
  bcast_S_S16384x3 : S_.BroadcastsInDim S16384x3 (![] : Fin 0 → Fin S16384x3.rank)
  bcast_S_S384 : S_.BroadcastsInDim S384 (![] : Fin 0 → Fin S384.rank)
  bcast_S_S256 : S_.BroadcastsInDim S256 (![] : Fin 0 → Fin S256.rank)

variable [Facts]

def fn {F : FTy → Type} [FloatOps F] (main_arg0 : FVec F S4096x256 .f32) (main_arg1 : FVec F S4096x3 .f32) (main_arg2 : IVec S4096 32) (main_arg3 : FVec F S16384x128 .f32) (main_arg4 : FVec F S16384x3 .f32) (main_arg5 : IVec S16384 32) (main_arg6 : FVec F S384x384 .f32) (main_arg7 : FVec F S384 .f32) (main_arg8 : FVec F S384 .f32) (main_arg9 : FVec F S384 .f32) (main_arg10 : FVec F S384x256 .f32) (main_arg11 : FVec F S256 .f32) (main_arg12 : FVec F S256 .f32) (main_arg13 : FVec F S256 .f32) : IVec S4096 1 × IVec S16384 1 × IVec S4096x3 1 × IVec S16384x3 1 × IVec S384 1 × IVec S256 1 :=
  let main_v0 : IVec S1 32 := (extractStridedSlice S1 ![0] · slices_S4096_S1_0) main_arg2
  let main_v1 : IVec S_ 32 := shapeCast S_ main_v0 shapeCasts_S1_S_
  let main_v2 : IVec S4096 32 := broadcastInDim S4096 ![] bcast_S_S4096 main_v1
  let main_v3 : IVec S4096 1 := cmpi .eq main_arg2 main_v2
  let main_v4 : IVec S1 32 := (extractStridedSlice S1 ![0] · slices_S4096_S1_0) main_arg2
  let main_v5 : IVec S_ 32 := shapeCast S_ main_v4 shapeCasts_S1_S_
  let main_v6 : IVec S16384 32 := broadcastInDim S16384 ![] bcast_S_S16384 main_v5
  let main_v7 : IVec S16384 1 := cmpi .eq main_arg5 main_v6
  let main_v8 : FVec F S4096x3 .f32 := Host.absf main_arg1
  let main_cst : FVec F S_ .f32 := constant S_ .f32 0x7F800000#32
  let main_v9 : FVec F S4096x3 .f32 := broadcastInDim S4096x3 ![] bcast_S_S4096x3 main_cst
  let main_v10 : IVec S4096x3 1 := cmpf .olt main_v8 main_v9
  let main_v11 : FVec F S16384x3 .f32 := Host.absf main_arg4
  let main_cst_0 : FVec F S_ .f32 := constant S_ .f32 0x7F800000#32
  let main_v12 : FVec F S16384x3 .f32 := broadcastInDim S16384x3 ![] bcast_S_S16384x3 main_cst_0
  let main_v13 : IVec S16384x3 1 := cmpf .olt main_v11 main_v12
  let main_v14 : FVec F S384 .f32 := Host.absf main_arg8
  let main_cst_1 : FVec F S_ .f32 := constant S_ .f32 0x7F800000#32
  let main_v15 : FVec F S384 .f32 := broadcastInDim S384 ![] bcast_S_S384 main_cst_1
  let main_v16 : IVec S384 1 := cmpf .olt main_v14 main_v15
  let main_v17 : FVec F S256 .f32 := Host.absf main_arg12
  let main_cst_2 : FVec F S_ .f32 := constant S_ .f32 0x7F800000#32
  let main_v18 : FVec F S256 .f32 := broadcastInDim S256 ![] bcast_S_S256 main_cst_2
  let main_v19 : IVec S256 1 := cmpf .olt main_v17 main_v18
  (main_v3, main_v7, main_v10, main_v13, main_v16, main_v19)
-- ==== Kernel.lean ====
abbrev S4096x256 : Shape := ⟨2, ![4096, 256]⟩
abbrev S4096x3 : Shape := ⟨2, ![4096, 3]⟩
abbrev S4096 : Shape := ⟨1, ![4096]⟩
abbrev S16384x128 : Shape := ⟨2, ![16384, 128]⟩
abbrev S16384x3 : Shape := ⟨2, ![16384, 3]⟩
abbrev S16384 : Shape := ⟨1, ![16384]⟩
abbrev S384x384 : Shape := ⟨2, ![384, 384]⟩
abbrev S384 : Shape := ⟨1, ![384]⟩
abbrev S384x256 : Shape := ⟨2, ![384, 256]⟩
abbrev S256 : Shape := ⟨1, ![256]⟩
abbrev S_ : Shape := ⟨0, ![]⟩
abbrev S8x4096 : Shape := ⟨2, ![8, 4096]⟩
abbrev S3x4096 : Shape := ⟨2, ![3, 4096]⟩
abbrev S1 : Shape := ⟨1, ![1]⟩
abbrev S16384x8 : Shape := ⟨2, ![16384, 8]⟩
abbrev S256x384 : Shape := ⟨2, ![256, 384]⟩
abbrev S128x384 : Shape := ⟨2, ![128, 384]⟩
abbrev S1x384 : Shape := ⟨2, ![1, 384]⟩
abbrev S16384x384 : Shape := ⟨2, ![16384, 384]⟩
abbrev S2x384 : Shape := ⟨2, ![2, 384]⟩
abbrev S256x8 : Shape := ⟨2, ![256, 8]⟩
abbrev S256x128 : Shape := ⟨2, ![256, 128]⟩
abbrev S256x1 : Shape := ⟨2, ![256, 1]⟩
abbrev S1x4096 : Shape := ⟨2, ![1, 4096]⟩
abbrev S256x4096 : Shape := ⟨2, ![256, 4096]⟩
abbrev S256x256 : Shape := ⟨2, ![256, 256]⟩
abbrev S1x256 : Shape := ⟨2, ![1, 256]⟩
abbrev S16384x256 : Shape := ⟨2, ![16384, 256]⟩
abbrev S2x256 : Shape := ⟨2, ![2, 256]⟩

abbrev nBuf : Space → Nat
  | .hbm => 38
  | .vmem => 29
  | .smem => 0
  | _ => 0

abbrev bufTy : (tb : Table) → Fin (tcTables nBuf tb) → BufTy
  | .hbm, ⟨0, _⟩ => ⟨S4096x256, .f32⟩
  | .hbm, ⟨1, _⟩ => ⟨S4096x3, .f32⟩
  | .hbm, ⟨2, _⟩ => ⟨S4096, .i32⟩
  | .hbm, ⟨3, _⟩ => ⟨S16384x128, .f32⟩
  | .hbm, ⟨4, _⟩ => ⟨S16384x3, .f32⟩
  | .hbm, ⟨5, _⟩ => ⟨S16384, .i32⟩
  | .hbm, ⟨6, _⟩ => ⟨S384x384, .f32⟩
  | .hbm, ⟨7, _⟩ => ⟨S384, .f32⟩
  | .hbm, ⟨8, _⟩ => ⟨S384, .f32⟩
  | .hbm, ⟨9, _⟩ => ⟨S384, .f32⟩
  | .hbm, ⟨10, _⟩ => ⟨S384x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S_, .f32⟩
  | .hbm, ⟨15, _⟩ => ⟨S8x4096, .f32⟩
  | .hbm, ⟨16, _⟩ => ⟨S3x4096, .f32⟩
  | .hbm, ⟨17, _⟩ => ⟨S_, .i32⟩
  | .hbm, ⟨18, _⟩ => ⟨S1, .i32⟩
  | .hbm, ⟨19, _⟩ => ⟨S8x4096, .f32⟩
  | .hbm, ⟨20, _⟩ => ⟨S_, .f32⟩
  | .hbm, ⟨21, _⟩ => ⟨S16384x8, .f32⟩
  | .hbm, ⟨22, _⟩ => ⟨S_, .i32⟩
  | .hbm, ⟨23, _⟩ => ⟨S1, .i32⟩
  | .hbm, ⟨24, _⟩ => ⟨S16384x8, .f32⟩
  | .hbm, ⟨25, _⟩ => ⟨S256x384, .f32⟩
  | .hbm, ⟨26, _⟩ => ⟨S128x384, .f32⟩
  | .hbm, ⟨27, _⟩ => ⟨S1x384, .f32⟩
  | .hbm, ⟨28, _⟩ => ⟨S16384x384, .f32⟩
  | .hbm, ⟨29, _⟩ => ⟨S2x384, .f32⟩
  | .hbm, ⟨30, _⟩ => ⟨S1x384, .f32⟩
  | .hbm, ⟨31, _⟩ => ⟨S1x384, .f32⟩
  | .hbm, ⟨32, _⟩ => ⟨S1x256, .f32⟩
  | .hbm, ⟨33, _⟩ => ⟨S16384x256, .f32⟩
  | .hbm, ⟨34, _⟩ => ⟨S2x256, .f32⟩
  | .hbm, ⟨35, _⟩ => ⟨S1x256, .f32⟩
  | .hbm, ⟨36, _⟩ => ⟨S1x256, .f32⟩
  | .hbm, ⟨37, _⟩ => ⟨S16384x256, .f32⟩
  | .local _ .vmem, ⟨0, _⟩ => ⟨S256x8, .f32⟩
  | .local _ .vmem, ⟨1, _⟩ => ⟨S256x8, .f32⟩
  | .local _ .vmem, ⟨2, _⟩ => ⟨S8x4096, .f32⟩
  | .local _ .vmem, ⟨3, _⟩ => ⟨S4096x256, .f32⟩
  | .local _ .vmem, ⟨4, _⟩ => ⟨S256x128, .f32⟩
  | .local _ .vmem, ⟨5, _⟩ => ⟨S256x128, .f32⟩
  | .local _ .vmem, ⟨6, _⟩ => ⟨S256x384, .f32⟩
  | .local _ .vmem, ⟨7, _⟩ => ⟨S128x384, .f32⟩
  | .local _ .vmem, ⟨8, _⟩ => ⟨S1x384, .f32⟩
  | .local _ .vmem, ⟨9, _⟩ => ⟨S256x384, .f32⟩
  | .local _ .vmem, ⟨10, _⟩ => ⟨S256x384, .f32⟩
  | .local _ .vmem, ⟨11, _⟩ => ⟨S2x384, .f32⟩
  | .local _ .vmem, ⟨12, _⟩ => ⟨S256x384, .f32⟩
  | .local _ .vmem, ⟨13, _⟩ => ⟨S256x384, .f32⟩
  | .local _ .vmem, ⟨14, _⟩ => ⟨S2x384, .f32⟩
  | .local _ .vmem, ⟨15, _⟩ => ⟨S1x384, .f32⟩
  | .local _ .vmem, ⟨16, _⟩ => ⟨S1x384, .f32⟩
  | .local _ .vmem, ⟨17, _⟩ => ⟨S384x256, .f32⟩
  | .local _ .vmem, ⟨18, _⟩ => ⟨S1x256, .f32⟩
  | .local _ .vmem, ⟨19, _⟩ => ⟨S256x256, .f32⟩
  | .local _ .vmem, ⟨20, _⟩ => ⟨S256x256, .f32⟩
  | .local _ .vmem, ⟨21, _⟩ => ⟨S2x256, .f32⟩
  | .local _ .vmem, ⟨22, _⟩ => ⟨S256x256, .f32⟩
  | .local _ .vmem, ⟨23, _⟩ => ⟨S256x256, .f32⟩
  | .local _ .vmem, ⟨24, _⟩ => ⟨S2x256, .f32⟩
  | .local _ .vmem, ⟨25, _⟩ => ⟨S1x256, .f32⟩
  | .local _ .vmem, ⟨26, _⟩ => ⟨S1x256, .f32⟩
  | .local _ .vmem, ⟨27, _⟩ => ⟨S256x256, .f32⟩
  | .local _ .vmem, ⟨28, _⟩ => ⟨S256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_c_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14_0 : Ref sig .tc := ⟨.hbm, 33, rfl⟩
abbrev main_v14_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg4_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc1_sem7_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem4_1 : DmaSem sig := 28

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v115 : BitVec 1 := Scalar.cmpi .eq arg0 c0_i32
  let v116 : BitVec 32 := Scalar.extui v115
  let c0_i32_48 : BitVec 32 := 0#32
  let v117 : BitVec 1 := Scalar.cmpi .ne v116 c0_i32_48
  v117

def k0_cond2 (i : grid0.Coords) : BitVec 1 :=
  let arg0 : BitVec 32 := BitVec.ofNat 32 (i 0).val
  let c0_i32_49 : BitVec 32 := 0#32
  let v118 : BitVec 1 := Scalar.cmpi .ne arg0 c0_i32_49
  let v119 : BitVec 32 := Scalar.extui v118
  let c0_i32_50 : BitVec 32 := 0#32
  let v120 : BitVec 1 := Scalar.cmpi .ne v119 c0_i32_50
  v120

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![64], ![false]⟩

def k1_cond1 (i : grid1.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_20 : BitVec 32 := 0#32
  let v43 : BitVec 1 := Scalar.cmpi .ne v42 c0_i32_20
  v43

def k1_cond2 (i : grid1.Coords) : BitVec 1 :=
  let arg0 : BitVec 32 := BitVec.ofNat 32 (i 0).val
  let c0_i32_21 : BitVec 32 := 0#32
  let v44 : BitVec 1 := Scalar.cmpi .ne arg0 c0_i32_21
  let v45 : BitVec 32 := Scalar.extui v44
  let c0_i32_22 : BitVec 32 := 0#32
  let v46 : BitVec 1 := Scalar.cmpi .ne v45 c0_i32_22
  v46

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S384x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S4096x256 : Shape := ⟨2, ![4096, 256]⟩
abbrev S4096x3 : Shape := ⟨2, ![4096, 3]⟩
abbrev S4096 : Shape := ⟨1, ![4096]⟩
abbrev S16384x128 : Shape := ⟨2, ![16384, 128]⟩
abbrev S16384x3 : Shape := ⟨2, ![16384, 3]⟩
abbrev S16384 : Shape := ⟨1, ![16384]⟩
abbrev S384x384 : Shape := ⟨2, ![384, 384]⟩
abbrev S384 : Shape := ⟨1, ![384]⟩
abbrev S384x256 : Shape := ⟨2, ![384, 256]⟩
abbrev S256 : Shape := ⟨1, ![256]⟩
abbrev S_ : Shape := ⟨0, ![]⟩
abbrev S16384x1 : Shape := ⟨2, ![16384, 1]⟩
abbrev S1x4096 : Shape := ⟨2, ![1, 4096]⟩
abbrev S16384x4096 : Shape := ⟨2, ![16384, 4096]⟩
abbrev S3x4096 : Shape := ⟨2, ![3, 4096]⟩
abbrev S16384x3x1 : Shape := ⟨3, ![16384, 3, 1]⟩
abbrev S16384x3x256 : Shape := ⟨3, ![16384, 3, 256]⟩
abbrev S16384x256 : Shape := ⟨2, ![16384, 256]⟩
abbrev S16384x384 : Shape := ⟨2, ![16384, 384]⟩
abbrev S1x384 : Shape := ⟨2, ![1, 384]⟩
abbrev S1x256 : Shape := ⟨2, ![1, 256]⟩

abbrev nBuf : Space → Nat
  | .hbm => 179
  | .vmem => 0
  | .smem => 0
  | _ => 0

abbrev hbmTy0_0 (i : Nat) : BufTy := match i % 128 with
  | 0 => ⟨S4096x256, .f32⟩
  | 1 => ⟨S4096x3, .f32⟩
  | 2 => ⟨S4096, .i32⟩
  | 3 => ⟨S16384x128, .f32⟩
  | 4 => ⟨S16384x3, .f32⟩
  | 5 => ⟨S16384, .i32⟩
  | 6 => ⟨S384x384, .f32⟩
  | 7 => ⟨S384, .f32⟩
  | 8 => ⟨S384, .f32⟩
  | 9 => ⟨S384, .f32⟩
  | 10 => ⟨S384x256, .f32⟩
  | 11 => ⟨S256, .f32⟩
  | 12 => ⟨S256, .f32⟩
  | 13 => ⟨S256, .f32⟩
  | 14 => ⟨S16384x3, .f32⟩
  | 15 => ⟨S_, .f32⟩
  | 16 => ⟨S16384, .f32⟩
  | 17 => ⟨S16384x1, .f32⟩
  | 18 => ⟨S4096x3, .f32⟩
  | 19 => ⟨S_, .f32⟩
  | 20 => ⟨S4096, .f32⟩
  | 21 => ⟨S1x4096, .f32⟩
  | 22 => ⟨S16384x4096, .f32⟩
  | 23 => ⟨S16384x4096, .f32⟩
  | 24 => ⟨S16384x4096, .f32⟩
  | 25 => ⟨S3x4096, .f32⟩
  | 26 => ⟨S16384x4096, .f32⟩
  | 27 => ⟨S_, .f32⟩
  | 28 => ⟨S16384x4096, .f32⟩
  | 29 => ⟨S16384x4096, .f32⟩
  | 30 => ⟨S16384x4096, .f32⟩
  | 31 => ⟨S16384x1, .i32⟩
  | 32 => ⟨S1x4096, .i32⟩
  | 33 => ⟨S16384x4096, .i32⟩
  | 34 => ⟨S16384x4096, .i32⟩
  | 35 => ⟨S16384x4096, .i1⟩
  | 36 => ⟨S_, .f32⟩
  | 37 => ⟨S_, .f32⟩
  | 38 => ⟨S16384x4096, .f32⟩
  | 39 => ⟨S16384x4096, .f32⟩
  | 40 => ⟨S16384x4096, .f32⟩
  | 41 => ⟨S16384x4096, .f32⟩
  | 42 => ⟨S16384x4096, .f32⟩
  | 43 => ⟨S16384x4096, .f32⟩
  | 44 => ⟨S16384x3, .f32⟩
  | 45 => ⟨S16384x3, .i32⟩
  | 46 => ⟨S16384x3, .f32⟩
  | 47 => ⟨S_, .f32⟩
  | 48 => ⟨S16384x3, .f32⟩
  | 49 => ⟨S16384x3, .f32⟩
  | 50 => ⟨S_, .f32⟩
  | 51 => ⟨S_, .f32⟩
  | 52 => ⟨S16384x3, .f32⟩
  | 53 => ⟨S16384x3, .f32⟩
  | 54 => ⟨S_, .f32⟩
  | 55 => ⟨S16384x3, .f32⟩
  | 56 => ⟨S16384x3, .f32⟩
  | 57 => ⟨S_, .i32⟩
  | 58 => ⟨S16384x3, .i32⟩
  | 59 => ⟨S16384x3, .i1⟩
  | 60 => ⟨S_, .i32⟩
  | 61 => ⟨S16384x3, .i32⟩
  | 62 => ⟨S16384x3, .i32⟩
  | 63 => ⟨S16384x3, .i32⟩
  | 64 => ⟨S16384x3x1, .i32⟩
  | 65 => ⟨S16384x3x256, .f32⟩
  | 66 => ⟨S16384x3x1, .f32⟩
  | 67 => ⟨S16384x3x256, .f32⟩
  | 68 => ⟨S16384x3x256, .f32⟩
  | 69 => ⟨S_, .f32⟩
  | 70 => ⟨S16384x256, .f32⟩
  | 71 => ⟨S_, .f32⟩
  | 72 => ⟨S16384, .f32⟩
  | 73 => ⟨S16384x1, .f32⟩
  | 74 => ⟨S16384x256, .f32⟩
  | 75 => ⟨S16384x256, .f32⟩
  | 76 => ⟨S16384x384, .f32⟩
  | 77 => ⟨S16384x384, .f32⟩
  | 78 => ⟨S1x384, .f32⟩
  | 79 => ⟨S16384x384, .f32⟩
  | 80 => ⟨S16384x384, .f32⟩
  | 81 => ⟨S_, .f32⟩
  | 82 => ⟨S16384x384, .f32⟩
  | 83 => ⟨S16384x384, .f32⟩
  | 84 => ⟨S_, .f32⟩
  | 85 => ⟨S384, .f32⟩
  | 86 => ⟨S_, .f32⟩
  | 87 => ⟨S384, .f32⟩
  | 88 => ⟨S384, .f32⟩
  | 89 => ⟨S_, .i32⟩
  | 90 => ⟨S_, .f32⟩
  | 91 => ⟨S384, .f32⟩
  | 92 => ⟨S1x384, .f32⟩
  | 93 => ⟨S_, .f32⟩
  | 94 => ⟨S1x384, .f32⟩
  | 95 => ⟨S1x384, .f32⟩
  | 96 => ⟨S16384x384, .f32⟩
  | 97 => ⟨S16384x384, .f32⟩
  | 98 => ⟨S16384x384, .f32⟩
  | 99 => ⟨S_, .f32⟩
  | 100 => ⟨S_, .f32⟩
  | 101 => ⟨S_, .f32⟩
  | 102 => ⟨S_, .f32⟩
  | 103 => ⟨S384, .f32⟩
  | 104 => ⟨S384, .f32⟩
  | 105 => ⟨S384, .f32⟩
  | 106 => ⟨S_, .f32⟩
  | 107 => ⟨S_, .i1⟩
  | 108 => ⟨S_, .f32⟩
  | 109 => ⟨S_, .f32⟩
  | 110 => ⟨S384, .f32⟩
  | 111 => ⟨S384, .f32⟩
  | 112 => ⟨S1x384, .f32⟩
  | 113 => ⟨S16384x384, .f32⟩
  | 114 => ⟨S16384x384, .f32⟩
  | 115 => ⟨S1x384, .f32⟩
  | 116 => ⟨S16384x384, .f32⟩
  | 117 => ⟨S16384x384, .f32⟩
  | 118 => ⟨S_, .f32⟩
  | 119 => ⟨S384, .f32⟩
  | 120 => ⟨S384, .f32⟩
  | 121 => ⟨S384, .f32⟩
  | 122 => ⟨S1x384, .f32⟩
  | 123 => ⟨S16384x384, .f32⟩
  | 124 => ⟨S16384x384, .f32⟩
  | 125 => ⟨S1x384, .f32⟩
  | 126 => ⟨S16384x384, .f32⟩
  | 127 => ⟨S16384x384, .f32⟩
  | _ => ⟨S4096x256, .f32⟩

abbrev hbmTy0_1 (i : Nat) : BufTy := match i % 128 with
  | 0 => ⟨S16384x256, .f32⟩
  | 1 => ⟨S1x256, .f32⟩
  | 2 => ⟨S16384x256, .f32⟩
  | 3 => ⟨S16384x256, .f32⟩
  | 4 => ⟨S_, .f32⟩
  | 5 => ⟨S16384x256, .f32⟩
  | 6 => ⟨S16384x256, .f32⟩
  | 7 => ⟨S_, .f32⟩
  | 8 => ⟨S256, .f32⟩
  | 9 => ⟨S_, .f32⟩
  | 10 => ⟨S256, .f32⟩
  | 11 => ⟨S256, .f32⟩
  | 12 => ⟨S_, .i32⟩
  | 13 => ⟨S_, .f32⟩
  | 14 => ⟨S256, .f32⟩
  | 15 => ⟨S1x256, .f32⟩
  | 16 => ⟨S_, .f32⟩
  | 17 => ⟨S1x256, .f32⟩
  | 18 => ⟨S1x256, .f32⟩
  | 19 => ⟨S16384x256, .f32⟩
  | 20 => ⟨S16384x256, .f32⟩
  | 21 => ⟨S16384x256, .f32⟩
  | 22 => ⟨S_, .f32⟩
  | 23 => ⟨S_, .f32⟩
  | 24 => ⟨S_, .f32⟩
  | 25 => ⟨S_, .f32⟩
  | 26 => ⟨S256, .f32⟩
  | 27 => ⟨S256, .f32⟩
  | 28 => ⟨S256, .f32⟩
  | 29 => ⟨S_, .f32⟩
  | 30 => ⟨S_, .i1⟩
  | 31 => ⟨S_, .f32⟩
  | 32 => ⟨S_, .f32⟩
  | 33 => ⟨S256, .f32⟩
  | 34 => ⟨S256, .f32⟩
  | 35 => ⟨S1x256, .f32⟩
  | 36 => ⟨S16384x256, .f32⟩
  | 37 => ⟨S16384x256, .f32⟩
  | 38 => ⟨S1x256, .f32⟩
  | 39 => ⟨S16384x256, .f32⟩
  | 40 => ⟨S16384x256, .f32⟩
  | 41 => ⟨S_, .f32⟩
  | 42 => ⟨S256, .f32⟩
  | 43 => ⟨S256, .f32⟩
  | 44 => ⟨S256, .f32⟩
  | 45 => ⟨S1x256, .f32⟩
  | 46 => ⟨S16384x256, .f32⟩
  | 47 => ⟨S16384x256, .f32⟩
  | 48 => ⟨S1x256, .f32⟩
  | 49 => ⟨S16384x256, .f32⟩
  | 50 => ⟨S16384x256, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_values : Ref sig .tc := ⟨.hbm, 44, rfl⟩
abbrev main_indices : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_call1_v0 : Ref sig .tc := ⟨.hbm, 51, rfl⟩
abbrev main_call1_v1 : Ref sig .tc := ⟨.hbm, 52, rfl⟩
abbrev main_v26 : Ref sig .tc := ⟨.hbm, 53, rfl⟩
abbrev main_cst_6 : Ref sig .tc := ⟨.hbm, 54, rfl⟩
abbrev main_v27 : Ref sig .tc := ⟨.hbm, 55, rfl⟩
abbrev main_v28 : Ref sig .tc := ⟨.hbm, 56, rfl⟩
abbrev main_c : Ref sig .tc := ⟨.hbm, 57, rfl⟩
abbrev main_v29 : Ref sig .tc := ⟨.hbm, 58, rfl⟩
abbrev main_v30 : Ref sig .tc := ⟨.hbm, 59, rfl⟩
abbrev main_c_7 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_8 : Ref sig .tc := ⟨.hbm, 69, rfl⟩
abbrev main_v39 : Ref sig .tc := ⟨.hbm, 70, rfl⟩
abbrev main_cst_9 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call2_cst : Ref sig .tc := ⟨.hbm, 81, rfl⟩
abbrev main_call2_v0 : Ref sig .tc := ⟨.hbm, 82, rfl⟩
abbrev main_v49 : Ref sig .tc := ⟨.hbm, 83, rfl⟩
abbrev main_cst_10 : Ref sig .tc := ⟨.hbm, 84, rfl⟩
abbrev main_v50 : Ref sig .tc := ⟨.hbm, 85, rfl⟩
abbrev main_cst_11 : Ref sig .tc := ⟨.hbm, 86, rfl⟩
abbrev main_v51 : Ref sig .tc := ⟨.hbm, 87, rfl⟩
abbrev main_v52 : Ref sig .tc := ⟨.hbm, 88, rfl⟩
abbrev main_c_12 : Ref sig .tc := ⟨.hbm, 89, rfl⟩
abbrev main_call3_cst : Ref sig .tc := ⟨.hbm, 90, rfl⟩
abbrev main_call3_v0 : Ref sig .tc := ⟨.hbm, 91, rfl⟩
abbrev main_call3_v1 : Ref sig .tc := ⟨.hbm, 92, rfl⟩
abbrev main_call3_cst_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_v6 : Ref sig .tc := ⟨.hbm, 98, rfl⟩
abbrev main_call3_v7 : Ref sig .tc := ⟨.hbm, 99, rfl⟩
abbrev main_call3_cst_1 : Ref sig .tc := ⟨.hbm, 100, rfl⟩
abbrev main_call3_v8 : Ref sig .tc := ⟨.hbm, 101, rfl⟩
abbrev main_call3_cst_2 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_cst_3 : Ref sig .tc := ⟨.hbm, 106, rfl⟩
abbrev main_call3_v12 : Ref sig .tc := ⟨.hbm, 107, rfl⟩
abbrev main_call3_cst_4 : Ref sig .tc := ⟨.hbm, 108, rfl⟩
abbrev main_call3_call0_v0 : Ref sig .tc := ⟨.hbm, 109, rfl⟩
abbrev main_call3_call0_v1 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_cst_13 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_call4_cst : Ref sig .tc := ⟨.hbm, 132, rfl⟩
abbrev main_call4_v0 : Ref sig .tc := ⟨.hbm, 133, rfl⟩
abbrev main_v73 : Ref sig .tc := ⟨.hbm, 134, rfl⟩
abbrev main_cst_14 : Ref sig .tc := ⟨.hbm, 135, rfl⟩
abbrev main_v74 : Ref sig .tc := ⟨.hbm, 136, rfl⟩
abbrev main_cst_15 : Ref sig .tc := ⟨.hbm, 137, rfl⟩
abbrev main_v75 : Ref sig .tc := ⟨.hbm, 138, rfl⟩
abbrev main_v76 : Ref sig .tc := ⟨.hbm, 139, rfl⟩
abbrev main_c_16 : Ref sig .tc := ⟨.hbm, 140, rfl⟩
abbrev main_call5_cst : Ref sig .tc := ⟨.hbm, 141, rfl⟩
abbrev main_call5_v0 : Ref sig .tc := ⟨.hbm, 142, rfl⟩
abbrev main_call5_v1 : Ref sig .tc := ⟨.hbm, 143, rfl⟩
abbrev main_call5_cst_0 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_v6 : Ref sig .tc := ⟨.hbm, 149, rfl⟩
abbrev main_call5_v7 : Ref sig .tc := ⟨.hbm, 150, rfl⟩
abbrev main_call5_cst_1 : Ref sig .tc := ⟨.hbm, 151, rfl⟩
abbrev main_call5_v8 : Ref sig .tc := ⟨.hbm, 152, rfl⟩
abbrev main_call5_cst_2 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_cst_3 : Ref sig .tc := ⟨.hbm, 157, rfl⟩
abbrev main_call5_v12 : Ref sig .tc := ⟨.hbm, 158, rfl⟩
abbrev main_call5_cst_4 : Ref sig .tc := ⟨.hbm, 159, rfl⟩
abbrev main_call5_call0_v0 : Ref sig .tc := ⟨.hbm, 160, rfl⟩
abbrev main_call5_call0_v1 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_cst_17 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩

abbrev nD : Nat := 1
abbrev τ : Topo := Topo.v7x

variable {F : FTy → Type} [FloatOps F]
-- ==== Proof.KernelIdeal.Whole.lean ====
/- Whole-buffer stores. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The zero offsets of a whole-buffer access, however they are written. -/
theorem off_zero : (![0, 0] : Fin 2 → ℕ) = fun _ => 0 := by funext a; fin_cases a <;> rfl

/-- One whole-buffer store covers the buffer. -/
theorem cover_one {S : Shape} {e : EltTy} {off : Fin S.rank → ℕ} (h : off = fun _ => 0) {inb : ∀ a, off a + S.size a ≤ S.size a}
    (w : S.Idx → Elt F e) (y : S.Idx) : ∃ p ∈ [(⟨Rect.unit off S.size inb, w⟩ : View.Piece (Elt F) S e)], y ∈ p.1.set :=
  ⟨_, List.mem_singleton_self _, View.mem_set_unit_zero h inb y⟩

end Cert.KernelIdeal.Hand

end
-- ==== Proof.KernelIdeal.PassA.lean ====
/- The first pass of the kernel: what its body leaves at each point, and its obligation. -/
module

public import proofs.«01_k».proof.Proof.KernelIdeal.Whole

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The block of first-layer results a point of the first pass stores, from its input blocks. -/
def hA (x0 : Vec F S256x8 .f32) (x1 : Vec F S8x4096 .f32) (x2 : Vec F S4096x256 .f32) (x3 : Vec F S256x128 .f32) (x4 : Vec F S256x384 .f32) (x5 : Vec F S128x384 .f32) (x6 : Vec F S1x384 .f32) : Vec F S256x384 .f32 :=
  k0_pay18 (k0_pay11 (k0_pay1 x0 x1) (iota .tc S256x4096 32 [1] iota_S256x4096_d1_w32) (k0_pay3 x0 x1) (k0_pay5 x0 x1)) (k0_pay12 (k0_pay1 x0 x1) (k0_pay3 x0 x1) (k0_pay6 x0 x1))
    (k0_pay15 (k0_pay1 x0 x1) (iota .tc S256x4096 32 [1] iota_S256x4096_d1_w32) (k0_pay3 x0 x1)) (k0_pay16 (k0_pay1 x0 x1) (iota .tc S256x4096 32 [1] iota_S256x4096_d1_w32) (k0_pay3 x0 x1)) (Scalar.ofBits .f32 0x00000000#32)
    (k0_pay17 (k0_pay1 x0 x1) (iota .tc S256x4096 32 [1] iota_S256x4096_d1_w32) (k0_pay3 x0 x1)) x2 x4 x3 x5 x6
/-- The statistics of that block: its column sums and the column sums of its squares. -/
def partA (x0 : Vec F S256x8 .f32) (x1 : Vec F S8x4096 .f32) (x2 : Vec F S4096x256 .f32) (x3 : Vec F S256x128 .f32) (x4 : Vec F S256x384 .f32) (x5 : Vec F S128x384 .f32) (x6 : Vec F S1x384 .f32) : Vec F S2x384 .f32 :=
  k0_pay19 (k0_pay11 (k0_pay1 x0 x1) (iota .tc S256x4096 32 [1] iota_S256x4096_d1_w32) (k0_pay3 x0 x1) (k0_pay5 x0 x1)) (k0_pay12 (k0_pay1 x0 x1) (k0_pay3 x0 x1) (k0_pay6 x0 x1))
    (k0_pay15 (k0_pay1 x0 x1) (iota .tc S256x4096 32 [1] iota_S256x4096_d1_w32) (k0_pay3 x0 x1)) (k0_pay16 (k0_pay1 x0 x1) (iota .tc S256x4096 32 [1] iota_S256x4096_d1_w32) (k0_pay3 x0 x1)) (Scalar.ofBits .f32 0x00000000#32)
    (k0_pay17 (k0_pay1 x0 x1) (iota .tc S256x4096 32 [1] iota_S256x4096_d1_w32) (k0_pay3 x0 x1)) x2 x4 x3 x5 x6
/-- Those statistics added to what the statistics buffer held. -/
def moreA (x0 : Vec F S256x8 .f32) (x1 : Vec F S8x4096 .f32) (x2 : Vec F S4096x256 .f32) (x3 : Vec F S256x128 .f32) (x4 : Vec F S256x384 .f32) (x5 : Vec F S128x384 .f32) (x6 : Vec F S1x384 .f32) (xo : Vec F S2x384 .f32) : Vec F S2x384 .f32 :=
  k0_pay20 (k0_pay11 (k0_pay1 x0 x1) (iota .tc S256x4096 32 [1] iota_S256x4096_d1_w32) (k0_pay3 x0 x1) (k0_pay5 x0 x1)) (k0_pay12 (k0_pay1 x0 x1) (k0_pay3 x0 x1) (k0_pay6 x0 x1))
    (k0_pay15 (k0_pay1 x0 x1) (iota .tc S256x4096 32 [1] iota_S256x4096_d1_w32) (k0_pay3 x0 x1)) (k0_pay16 (k0_pay1 x0 x1) (iota .tc S256x4096 32 [1] iota_S256x4096_d1_w32) (k0_pay3 x0 x1)) (Scalar.ofBits .f32 0x00000000#32)
    (k0_pay17 (k0_pay1 x0 x1) (iota .tc S256x4096 32 [1] iota_S256x4096_d1_w32) (k0_pay3 x0 x1)) x2 x4 x3 x5 x6 xo

set_option maxHeartbeats 1000000 in
/-- At the first point the body stores the block of results and the statistics of that block. -/
theorem bodyA_first (c : Dev nD) (E : Set ℕ) (i : grid0.Coords) (arg1 : Memref sig .tc .vmem S256x8 .f32) (harg1 : arg1.IsWhole) (arg2 : Memref sig .tc .vmem S8x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S256x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S256x384 .f32) (harg8 : arg8.IsWhole) (arg9 : Memref sig .tc .vmem S2x384 .f32) (harg9 : arg9.IsWhole)
    (h1 : k0_cond1 i = 1#1) (h2 : ¬ k0_cond2 i = 1#1)
    (x0 : Vec F S256x8 .f32) (x1 : Vec F S8x4096 .f32) (x2 : Vec F S4096x256 .f32) (x3 : Vec F S256x128 .f32) (x4 : Vec F S256x384 .f32) (x5 : Vec F S128x384 .f32) (x6 : Vec F S1x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hA x0 x1 x2 x3 x4 x5 x6) ∗ owns (c : Thread nD τ) arg9 fullShare (partA x0 x1 x2 x3 x4 x5 x6)) -∗ K ⟨⟩))
      ⊢ wp frame (wpE (defs₀ (F := F)) Variants.none c none) E (cc0__pass_a i arg1 harg1 arg2 harg2 arg3 harg3 arg4 harg4 arg5 harg5 arg6 harg6 arg7 harg7 arg8 harg8 arg9 harg9) K := by
  simp only [cc0__pass_a_eq_skeleton]; unfold cc0__pass_a_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec (disch := first | sl_exact h1 | sl_exact h2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro; refine (View.read_writes_eq_canon _ _ _ (cover_one off_zero _)).trans ((View.canon_unit_zero off_zero _ _).trans ?_)
    refine (show _ = hA (View.ld (arg1.view.read (Elt F) f0) (Rect.unit (s := S256x8) ![0, 0] S256x8.size inb_S256x8_S256x8_0_0)) (View.ld (arg2.view.read (Elt F) f1) (Rect.unit (s := S8x4096) ![0, 0] S8x4096.size inb_S8x4096_S8x4096_0_0)) (View.ld (arg3.view.read (Elt F) f2) (Rect.unit (s := S4096x256) ![0, 0] S4096x256.size inb_S4096x256_S4096x256_0_0)) (View.ld (arg4.view.read (Elt F) f3) (Rect.unit (s := S256x128) ![0, 0] S256x128.size inb_S256x128_S256x128_0_0)) (View.ld (arg5.view.read (Elt F) f4) (Rect.unit (s := S256x384) ![0, 0] S256x384.size inb_S256x384_S256x384_0_0)) (View.ld (arg6.view.read (Elt F) f5) (Rect.unit (s := S128x384) ![0, 0] S128x384.size inb_S128x384_S128x384_0_0)) (View.ld (arg7.view.read (Elt F) f6) (Rect.unit (s := S1x384) ![0, 0] S1x384.size inb_S1x384_S1x384_0_0)) from rfl).trans ?_; congr 1 <;> exact View.ld_unit_zero off_zero _ _
  · iexists _; isplitr; swap; · iexact H8
    ipureintro; refine (View.read_writes_eq_canon _ _ _ (cover_one off_zero _)).trans ((View.canon_unit_zero off_zero _ _).trans ?_)
    refine (show _ = partA (View.ld (arg1.view.read (Elt F) f0) (Rect.unit (s := S256x8) ![0, 0] S256x8.size inb_S256x8_S256x8_0_0)) (View.ld (arg2.view.read (Elt F) f1) (Rect.unit (s := S8x4096) ![0, 0] S8x4096.size inb_S8x4096_S8x4096_0_0)) (View.ld (arg3.view.read (Elt F) f2) (Rect.unit (s := S4096x256) ![0, 0] S4096x256.size inb_S4096x256_S4096x256_0_0)) (View.ld (arg4.view.read (Elt F) f3) (Rect.unit (s := S256x128) ![0, 0] S256x128.size inb_S256x128_S256x128_0_0)) (View.ld (arg5.view.read (Elt F) f4) (Rect.unit (s := S256x384) ![0, 0] S256x384.size inb_S256x384_S256x384_0_0)) (View.ld (arg6.view.read (Elt F) f5) (Rect.unit (s := S128x384) ![0, 0] S128x384.size inb_S128x384_S128x384_0_0)) (View.ld (arg7.view.read (Elt F) f6) (Rect.unit (s := S1x384) ![0, 0] S1x384.size inb_S1x384_S1x384_0_0)) from rfl).trans ?_; congr 1 <;> exact View.ld_unit_zero off_zero _ _

set_option maxHeartbeats 1000000 in
/-- At a later point the body stores the block of results and adds its statistics to those of the points before. -/
theorem bodyA_next (c : Dev nD) (E : Set ℕ) (i : grid0.Coords) (arg1 : Memref sig .tc .vmem S256x8 .f32) (harg1 : arg1.IsWhole) (arg2 : Memref sig .tc .vmem S8x4096 .f32) (harg2 : arg2.IsWhole) (arg3 : Memref sig .tc .vmem S4096x256 .f32) (harg3 : arg3.IsWhole) (arg4 : Memref sig .tc .vmem S256x128 .f32) (harg4 : arg4.IsWhole) (arg5 : Memref sig .tc .vmem S256x384 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S256x384 .f32) (harg8 : arg8.IsWhole) (arg9 : Memref sig .tc .vmem S2x384 .f32) (harg9 : arg9.IsWhole)
    (h1 : ¬ k0_cond1 i = 1#1) (h2 : k0_cond2 i = 1#1)
    (x0 : Vec F S256x8 .f32) (x1 : Vec F S8x4096 .f32) (x2 : Vec F S4096x256 .f32) (x3 : Vec F S256x128 .f32) (x4 : Vec F S256x384 .f32) (x5 : Vec F S128x384 .f32) (x6 : Vec F S1x384 .f32) (xo : Vec F S2x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hA x0 x1 x2 x3 x4 x5 x6) ∗ owns (c : Thread nD τ) arg9 fullShare (moreA x0 x1 x2 x3 x4 x5 x6 xo)) -∗ K ⟨⟩))
      ⊢ wp frame (wpE (defs₀ (F := F)) Variants.none c none) E (cc0__pass_a i arg1 harg1 arg2 harg2 arg3 harg3 arg4 harg4 arg5 harg5 arg6 harg6 arg7 harg7 arg8 harg8 arg9 harg9) K := by
  simp only [cc0__pass_a_eq_skeleton]; unfold cc0__pass_a_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf0 hf1 hf2 hf3 hf4 hf5 hf6 hf8
  sl_exec (disch := first | sl_exact h1 | sl_exact h2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro; refine (View.read_writes_eq_canon _ _ _ (cover_one off_zero _)).trans ((View.canon_unit_zero off_zero _ _).trans ?_)
    refine (show _ = hA (View.ld (arg1.view.read (Elt F) f0) (Rect.unit (s := S256x8) ![0, 0] S256x8.size inb_S256x8_S256x8_0_0)) (View.ld (arg2.view.read (Elt F) f1) (Rect.unit (s := S8x4096) ![0, 0] S8x4096.size inb_S8x4096_S8x4096_0_0)) (View.ld (arg3.view.read (Elt F) f2) (Rect.unit (s := S4096x256) ![0, 0] S4096x256.size inb_S4096x256_S4096x256_0_0)) (View.ld (arg4.view.read (Elt F) f3) (Rect.unit (s := S256x128) ![0, 0] S256x128.size inb_S256x128_S256x128_0_0)) (View.ld (arg5.view.read (Elt F) f4) (Rect.unit (s := S256x384) ![0, 0] S256x384.size inb_S256x384_S256x384_0_0)) (View.ld (arg6.view.read (Elt F) f5) (Rect.unit (s := S128x384) ![0, 0] S128x384.size inb_S128x384_S128x384_0_0)) (View.ld (arg7.view.read (Elt F) f6) (Rect.unit (s := S1x384) ![0, 0] S1x384.size inb_S1x384_S1x384_0_0)) from rfl).trans ?_; congr 1 <;> exact View.ld_unit_zero off_zero _ _
  · iexists _; isplitr; swap; · iexact H8
    ipureintro; refine (View.read_writes_eq_canon _ _ _ (cover_one off_zero _)).trans ((View.canon_unit_zero off_zero _ _).trans ?_)
    refine (show _ = moreA (View.ld (arg1.view.read (Elt F) f0) (Rect.unit (s := S256x8) ![0, 0] S256x8.size inb_S256x8_S256x8_0_0)) (View.ld (arg2.view.read (Elt F) f1) (Rect.unit (s := S8x4096) ![0, 0] S8x4096.size inb_S8x4096_S8x4096_0_0)) (View.ld (arg3.view.read (Elt F) f2) (Rect.unit (s := S4096x256) ![0, 0] S4096x256.size inb_S4096x256_S4096x256_0_0)) (View.ld (arg4.view.read (Elt F) f3) (Rect.unit (s := S256x128) ![0, 0] S256x128.size inb_S256x128_S256x128_0_0)) (View.ld (arg5.view.read (Elt F) f4) (Rect.unit (s := S256x384) ![0, 0] S256x384.size inb_S256x384_S256x384_0_0)) (View.ld (arg6.view.read (Elt F) f5) (Rect.unit (s := S128x384) ![0, 0] S128x384.size inb_S128x384_S128x384_0_0)) (View.ld (arg7.view.read (Elt F) f6) (Rect.unit (s := S1x384) ![0, 0] S1x384.size inb_S1x384_S1x384_0_0)) (View.ld (arg9.view.read (Elt F) f8) (Rect.unit (s := S2x384) ![0, 0] S2x384.size inb_S2x384_S2x384_0_0)) from rfl).trans ?_; congr 1 <;> exact View.ld_unit_zero off_zero _ _

section Region
variable (V : (c : Dev nD) → (b : Ref sig .tc) → Buf (Elt F) ((c : Thread nD τ).loc b))

/-- The block of window `w` at point `t`, its array as it stands when the region is entered. -/
def blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the statistics window's buffer holds after point `n`: the first point's statistics, then each later
    point's added to what was there. -/
def statA (c : Dev nD) : (n : ℕ) → n < cfg0.N → Vec F S2x384 .f32
  | 0, h => partA (blkA V c 0 ⟨0, h⟩) (blkA V c 1 ⟨0, h⟩) (blkA V c 2 ⟨0, h⟩) (blkA V c 3 ⟨0, h⟩) (blkA V c 4 ⟨0, h⟩) (blkA V c 5 ⟨0, h⟩) (blkA V c 6 ⟨0, h⟩)
  | n + 1, h => moreA (blkA V c 0 ⟨n + 1, h⟩) (blkA V c 1 ⟨n + 1, h⟩) (blkA V c 2 ⟨n + 1, h⟩) (blkA V c 3 ⟨n + 1, h⟩) (blkA V c 4 ⟨n + 1, h⟩) (blkA V c 5 ⟨n + 1, h⟩) (blkA V c 6 ⟨n + 1, h⟩) (statA c n (Nat.lt_of_succ_lt h))

/-- The data of pipeline 0: its arrays as the region finds them, and what the body leaves in each window's buffer. -/
def datA (c : Dev nD) : Dat τ (Elt F) Unit ℕ (UR sig nD τ) ℕ cfg0 c where
  A w := V c (Pipeline.arrRef spec0 w)
  after w t := match w with
    | ⟨0, _⟩ => blkA V c 0 t
    | ⟨1, _⟩ => blkA V c 1 t
    | ⟨2, _⟩ => blkA V c 2 t
    | ⟨3, _⟩ => blkA V c 3 t
    | ⟨4, _⟩ => blkA V c 4 t
    | ⟨5, _⟩ => blkA V c 5 t
    | ⟨6, _⟩ => blkA V c 6 t
    | ⟨7, _⟩ => hA (blkA V c 0 t) (blkA V c 1 t) (blkA V c 2 t) (blkA V c 3 t) (blkA V c 4 t) (blkA V c 5 t) (blkA V c 6 t)
    | ⟨8, _⟩ => statA V c t.val t.isLt
  Φ _ := Pipeline.ΦA spec0 c
  q _ := fullShare
  owed _ := 0

theorem A_eqA (c : Dev nD) (w : Fin cfg0.W) : (datA V c).A w = V c (Pipeline.arrRef spec0 w) := by
  dsimp only [datA]
theorem afterA_0 (c : Dev nD) (t : Fin cfg0.N) : (datA V c).after 0 t = blkA V c 0 t := by dsimp only [datA]
theorem afterA_1 (c : Dev nD) (t : Fin cfg0.N) : (datA V c).after 1 t = blkA V c 1 t := by dsimp only [datA]
theorem afterA_2 (c : Dev nD) (t : Fin cfg0.N) : (datA V c).after 2 t = blkA V c 2 t := by dsimp only [datA]
theorem afterA_3 (c : Dev nD) (t : Fin cfg0.N) : (datA V c).after 3 t = blkA V c 3 t := by dsimp only [datA]
theorem afterA_4 (c : Dev nD) (t : Fin cfg0.N) : (datA V c).after 4 t = blkA V c 4 t := by dsimp only [datA]
theorem afterA_5 (c : Dev nD) (t : Fin cfg0.N) : (datA V c).after 5 t = blkA V c 5 t := by dsimp only [datA]
theorem afterA_6 (c : Dev nD) (t : Fin cfg0.N) : (datA V c).after 6 t = blkA V c 6 t := by dsimp only [datA]
theorem afterA_7 (c : Dev nD) (t : Fin cfg0.N) : (datA V c).after 7 t = hA (blkA V c 0 t) (blkA V c 1 t) (blkA V c 2 t) (blkA V c 3 t) (blkA V c 4 t) (blkA V c 5 t) (blkA V c 6 t) := by dsimp only [datA]
theorem afterA_8 (c : Dev nD) (t : Fin cfg0.N) : (datA V c).after 8 t = statA V c t.val t.isLt := by dsimp only [datA]

/-- An input window's buffer holds its block when the body is called, whether or not it was fetched at that point. -/
theorem beforeA_in (c : Dev nD) (w : Fin cfg0.W) (hw : (cfg0.win w).isOut = false) (hl : ∀ i, cfg0.idle w i = false)
    (hc : ∀ t t' : Fin cfg0.N, (cfg0.win w).index t = (cfg0.win w).index t' →
      (cfg0.win w).clip (cfg0.grid.coords t) = (cfg0.win w).clip (cfg0.grid.coords t'))
    (hk : ∀ t, (cfg0.win w).cut (cfg0.grid.coords t) ((datA V c).after w t) = blkA V c w t)
    (t : Fin cfg0.N) (d) : (datA V c).before w t d = (cfg0.win w).fill (cfg0.grid.coords t) d (blkA V c w t) :=
  ((datA V c).before_in_eq_fetched w hw hl hc (fun t => (hk t).trans rfl) t d).trans rfl
theorem beforeA_0 (c : Dev nD) (t : Fin cfg0.N) (d) : (datA V c).before 0 t d = blkA V c 0 t :=
  (beforeA_in V c 0 rfl (fun _ => rfl) (fun _ _ _ => rfl) (fun t => by rw [afterA_0]) t d).trans rfl
theorem beforeA_1 (c : Dev nD) (t : Fin cfg0.N) (d) : (datA V c).before 1 t d = blkA V c 1 t :=
  (beforeA_in V c 1 rfl (fun _ => rfl) (fun _ _ _ => rfl) (fun t => by rw [afterA_1]) t d).trans rfl
theorem beforeA_2 (c : Dev nD) (t : Fin cfg0.N) (d) : (datA V c).before 2 t d = blkA V c 2 t :=
  (beforeA_in V c 2 rfl (fun _ => rfl) (fun _ _ _ => rfl) (fun t => by rw [afterA_2]) t d).trans rfl
theorem beforeA_3 (c : Dev nD) (t : Fin cfg0.N) (d) : (datA V c).before 3 t d = blkA V c 3 t :=
  (beforeA_in V c 3 rfl (fun _ => rfl) (fun _ _ _ => rfl) (fun t => by rw [afterA_3]) t d).trans rfl
theorem beforeA_4 (c : Dev nD) (t : Fin cfg0.N) (d) : (datA V c).before 4 t d = blkA V c 4 t :=
  (beforeA_in V c 4 rfl (fun _ => rfl) (fun _ _ _ => rfl) (fun t => by rw [afterA_4]) t d).trans rfl
theorem beforeA_5 (c : Dev nD) (t : Fin cfg0.N) (d) : (datA V c).before 5 t d = blkA V c 5 t :=
  (beforeA_in V c 5 rfl (fun _ => rfl) (fun _ _ _ => rfl) (fun t => by rw [afterA_5]) t d).trans rfl
theorem beforeA_6 (c : Dev nD) (t : Fin cfg0.N) (d) : (datA V c).before 6 t d = blkA V c 6 t :=
  (beforeA_in V c 6 rfl (fun _ => rfl) (fun _ _ _ => rfl) (fun t => by rw [afterA_6]) t d).trans rfl

/-- The first condition holds at the first point only. -/
theorem condA_first (i : grid0.Coords) : k0_cond1 i = 1#1 ↔ (i 0).val = 0 := by
  have h : (i 0).val < 64 := (i 0).isLt
  simp only [k0_cond1]
  word_cmp

/-- The second condition holds at every other point. -/
theorem condA_next (i : grid0.Coords) : k0_cond2 i = 1#1 ↔ ¬ (i 0).val = 0 := by
  have h : (i 0).val < 64 := (i 0).isLt
  simp only [k0_cond2]
  word_cmp

/-- One of the two conditions holds at every point, so the statistics window is stored at every point. -/
theorem liveA (i : grid0.Coords) : cfg0.idle 8 i = false := by
  show (!(k0_cond1 i == 1#1) && !(k0_cond2 i == 1#1)) = false
  by_cases h : (i 0).val = 0
  · rw [(condA_first i).mpr h]; rfl
  · rw [(condA_next i).mpr h, Bool.and_comm]; rfl

/-- The grid coordinate of point `t` is `t`. -/
theorem coordA (t : Fin cfg0.N) : (grid0.coords t 0).val = t.val := by
  have ht : t.val < 64 := Nat.lt_of_lt_of_eq t.isLt N_0
  have e : (grid0.coords t 0).val = t.val / 1 % 64 := Pipeline.Grid.coords_val t 0 (by decide) rfl
  rw [e, Nat.div_one, Nat.mod_eq_of_lt ht]

/-- After the first point the statistics window's buffer holds what the point before left. -/
theorem beforeA_stat (c : Dev nD) (n : ℕ) (h : n + 1 < cfg0.N) (d) :
    (datA V c).before 8 ⟨n + 1, h⟩ d = statA V c n (Nat.lt_of_succ_lt h) := by
  have hN : n + 1 < 64 := lt_of_lt_of_eq h (show cfg0.N = 64 from N_0)
  rw [Dat.before_out_kept _ 8 rfl ⟨n + 1, h⟩ (Nat.succ_ne_zero n)
    (Bool.eq_false_iff.mpr fun hf => by have := (flush0_8 _).mp hf; dsimp only at this; omega) liveA (fun _ _ => rfl)]
  dsimp only [datA]; rfl

set_option maxHeartbeats 1600000 in
/-- The body at one point, from what its windows' buffers hold to what it leaves there. -/
theorem soundA (c : Dev nD) (t : Fin cfg0.N) :
    iprop((datA V c).Φ t.castSucc ∗ (datA V c).owesAt () t.castSucc
      ∗ (∃ d, owns (c : Thread nD τ) (st0_0 t) fullShare ((datA V c).before 0 t d))
      ∗ (∃ d, owns (c : Thread nD τ) (st0_1 t) fullShare ((datA V c).before 1 t d))
      ∗ (∃ d, owns (c : Thread nD τ) (st0_2 t) fullShare ((datA V c).before 2 t d))
      ∗ (∃ d, owns (c : Thread nD τ) (st0_3 t) fullShare ((datA V c).before 3 t d))
      ∗ (∃ d, owns (c : Thread nD τ) (st0_4 t) fullShare ((datA V c).before 4 t d))
      ∗ (∃ d, owns (c : Thread nD τ) (st0_5 t) fullShare ((datA V c).before 5 t d))
      ∗ (∃ d, owns (c : Thread nD τ) (st0_6 t) fullShare ((datA V c).before 6 t d))
      ∗ (∃ d, owns (c : Thread nD τ) (st0_7 t) fullShare ((datA V c).before 7 t d))
      ∗ (∃ d, owns (c : Thread nD τ) (st0_8 t) fullShare ((datA V c).before 8 t d))
    ) ⊢ wp frame (wpE (defs₀ (F := F)) Variants.none c none) Set.univ (bodyAt0 t) (fun _ => iprop((datA V c).Φ t.succ ∗ (datA V c).owesAt () t.succ
      ∗ owns (c : Thread nD τ) (st0_0 t) fullShare ((datA V c).after 0 t)
      ∗ owns (c : Thread nD τ) (st0_1 t) fullShare ((datA V c).after 1 t)
      ∗ owns (c : Thread nD τ) (st0_2 t) fullShare ((datA V c).after 2 t)
      ∗ owns (c : Thread nD τ) (st0_3 t) fullShare ((datA V c).after 3 t)
      ∗ owns (c : Thread nD τ) (st0_4 t) fullShare ((datA V c).after 4 t)
      ∗ owns (c : Thread nD τ) (st0_5 t) fullShare ((datA V c).after 5 t)
      ∗ owns (c : Thread nD τ) (st0_6 t) fullShare ((datA V c).after 6 t)
      ∗ owns (c : Thread nD τ) (st0_7 t) fullShare ((datA V c).after 7 t)
      ∗ owns (c : Thread nD τ) (st0_8 t) fullShare ((datA V c).after 8 t)
    )) := by
  unfold bodyAt0
  simp only [beforeA_0, beforeA_1, beforeA_2, beforeA_3, beforeA_4, beforeA_5, beforeA_6]
  rw [show (datA V c).Φ t.succ = (datA V c).Φ t.castSucc from rfl,
    show (datA V c).owesAt () t.succ = (datA V c).owesAt () t.castSucc from rfl,
    afterA_0, afterA_1, afterA_2, afterA_3, afterA_4, afterA_5, afterA_6, afterA_7, afterA_8]
  obtain ⟨n, hn⟩ := t
  cases n with
  | zero =>
    have e : (grid0.coords ⟨0, hn⟩ 0).val = 0 := coordA _
    simp only [statA]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (bodyA_first c Set.univ (grid0.coords ⟨0, hn⟩) _ _ _ _ _ _ _ _ _ _ _ _ _ _ _ _ _ _ ((condA_first _).mpr e) (fun h => (condA_next _).mp h e) (blkA V c 0 ⟨0, hn⟩) (blkA V c 1 ⟨0, hn⟩) (blkA V c 2 ⟨0, hn⟩) (blkA V c 3 ⟨0, hn⟩) (blkA V c 4 ⟨0, hn⟩) (blkA V c 5 ⟨0, hn⟩) (blkA V c 6 ⟨0, hn⟩) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  | succ n =>
    have e : ¬ (grid0.coords ⟨n + 1, hn⟩ 0).val = 0 := by rw [coordA]; exact Nat.succ_ne_zero n
    simp only [statA, beforeA_stat]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (bodyA_next c Set.univ (grid0.coords ⟨n + 1, hn⟩) _ _ _ _ _ _ _ _ _ _ _ _ _ _ _ _ _ _ (fun h => e ((condA_first _).mp h)) ((condA_next _).mpr e) (blkA V c 0 ⟨n + 1, hn⟩) (blkA V c 1 ⟨n + 1, hn⟩) (blkA V c 2 ⟨n + 1, hn⟩) (blkA V c 3 ⟨n + 1, hn⟩) (blkA V c 4 ⟨n + 1, hn⟩) (blkA V c 5 ⟨n + 1, hn⟩) (blkA V c 6 ⟨n + 1, hn⟩) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

set_option maxHeartbeats 1600000 in
/-- The body's obligation at every point. -/
theorem obligationA (c : Dev nD) : BodyObligation (datA (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  refine triple_restated (soundA V c t) rfl .rfl fun _ => ?_
  have hl : cfg0.idle 8 (cfg0.grid.coords t) = false := liveA _
  rw [hl]

end Region

end Cert.KernelIdeal.Hand

end
-- ==== Proof.KernelIdeal.PassB.lean ====
/- The second pass of the kernel: what its body leaves at each point, and its obligation. -/
module

public import proofs.«01_k».proof.Proof.KernelIdeal.Whole

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The block of second-layer results a point of the second pass stores, from its input blocks. -/
def hB (x0 : Vec F S256x384 .f32) (x1 : Vec F S2x384 .f32) (x2 : Vec F S1x384 .f32) (x3 : Vec F S1x384 .f32) (x4 : Vec F S384x256 .f32) (x5 : Vec F S1x256 .f32) : Vec F S256x256 .f32 :=
  k1_pay3 (View.ld x1 (Rect.unit (s := S2x384) ![0, 0] S1x384.size inb_S2x384_S1x384_0_0)) (View.ld x1 (Rect.unit (s := S2x384) ![1, 0] S1x384.size inb_S2x384_S1x384_1_0))
    x2 x3 x0 x4 x5
/-- The statistics of that block. -/
def partB (x0 : Vec F S256x384 .f32) (x1 : Vec F S2x384 .f32) (x2 : Vec F S1x384 .f32) (x3 : Vec F S1x384 .f32) (x4 : Vec F S384x256 .f32) (x5 : Vec F S1x256 .f32) : Vec F S2x256 .f32 :=
  k1_pay1 (hB x0 x1 x2 x3 x4 x5) (k1_pay4 (View.ld x1 (Rect.unit (s := S2x384) ![0, 0] S1x384.size inb_S2x384_S1x384_0_0)) (View.ld x1 (Rect.unit (s := S2x384) ![1, 0] S1x384.size inb_S2x384_S1x384_1_0))
    x2 x3 x0 x4 x5)
/-- Those statistics added to what the statistics buffer held. -/
def moreB (x0 : Vec F S256x384 .f32) (x1 : Vec F S2x384 .f32) (x2 : Vec F S1x384 .f32) (x3 : Vec F S1x384 .f32) (x4 : Vec F S384x256 .f32) (x5 : Vec F S1x256 .f32) (xo : Vec F S2x256 .f32) : Vec F S2x256 .f32 :=
  k1_pay2 (hB x0 x1 x2 x3 x4 x5) (k1_pay4 (View.ld x1 (Rect.unit (s := S2x384) ![0, 0] S1x384.size inb_S2x384_S1x384_0_0)) (View.ld x1 (Rect.unit (s := S2x384) ![1, 0] S1x384.size inb_S2x384_S1x384_1_0))
    x2 x3 x0 x4 x5) xo

set_option maxHeartbeats 1000000 in
/-- At the first point the body stores the block of results and the statistics of that block. -/
theorem bodyB_first (c : Dev nD) (E : Set ℕ) (i : grid1.Coords) (arg1 : Memref sig .tc .vmem S256x384 .f32) (harg1 : arg1.IsWhole) (arg2 : Memref sig .tc .vmem S2x384 .f32) (harg2 : arg2.IsWhole) (arg3 : Memref sig .tc .vmem S1x384 .f32) (harg3 : arg3.IsWhole) (arg4 : Memref sig .tc .vmem S1x384 .f32) (harg4 : arg4.IsWhole) (arg5 : Memref sig .tc .vmem S384x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S2x256 .f32) (harg8 : arg8.IsWhole)
    (h1 : k1_cond1 i = 1#1) (h2 : ¬ k1_cond2 i = 1#1)
    (x0 : Vec F S256x384 .f32) (x1 : Vec F S2x384 .f32) (x2 : Vec F S1x384 .f32) (x3 : Vec F S1x384 .f32) (x4 : Vec F S384x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hB x0 x1 x2 x3 x4 x5) ∗ owns (c : Thread nD τ) arg8 fullShare (partB x0 x1 x2 x3 x4 x5)) -∗ K ⟨⟩))
      ⊢ wp frame (wpE (defs₀ (F := F)) Variants.none c none) E (cc1__pass_b i arg1 harg1 arg2 harg2 arg3 harg3 arg4 harg4 arg5 harg5 arg6 harg6 arg7 harg7 arg8 harg8) K := by
  simp only [cc1__pass_b_eq_skeleton]; unfold cc1__pass_b_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec (disch := first | sl_exact h1 | sl_exact h2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr; swap; · iexact H6
    ipureintro; refine (View.read_writes_eq_canon _ _ _ (cover_one off_zero _)).trans ((View.canon_unit_zero off_zero _ _).trans ?_)
    refine (show _ = hB (View.ld (arg1.view.read (Elt F) f0) (Rect.unit (s := S256x384) ![0, 0] S256x384.size inb_S256x384_S256x384_0_0)) (arg2.view.read (Elt F) f1) (View.ld (arg3.view.read (Elt F) f2) (Rect.unit (s := S1x384) ![0, 0] S1x384.size inb_S1x384_S1x384_0_0)) (View.ld (arg4.view.read (Elt F) f3) (Rect.unit (s := S1x384) ![0, 0] S1x384.size inb_S1x384_S1x384_0_0)) (View.ld (arg5.view.read (Elt F) f4) (Rect.unit (s := S384x256) ![0, 0] S384x256.size inb_S384x256_S384x256_0_0)) (View.ld (arg6.view.read (Elt F) f5) (Rect.unit (s := S1x256) ![0, 0] S1x256.size inb_S1x256_S1x256_0_0)) from rfl).trans ?_; congr 1 <;> exact View.ld_unit_zero off_zero _ _
  · iexists _; isplitr; swap; · iexact H7
    ipureintro; refine (View.read_writes_eq_canon _ _ _ (cover_one off_zero _)).trans ((View.canon_unit_zero off_zero _ _).trans ?_)
    refine (show _ = partB (View.ld (arg1.view.read (Elt F) f0) (Rect.unit (s := S256x384) ![0, 0] S256x384.size inb_S256x384_S256x384_0_0)) (arg2.view.read (Elt F) f1) (View.ld (arg3.view.read (Elt F) f2) (Rect.unit (s := S1x384) ![0, 0] S1x384.size inb_S1x384_S1x384_0_0)) (View.ld (arg4.view.read (Elt F) f3) (Rect.unit (s := S1x384) ![0, 0] S1x384.size inb_S1x384_S1x384_0_0)) (View.ld (arg5.view.read (Elt F) f4) (Rect.unit (s := S384x256) ![0, 0] S384x256.size inb_S384x256_S384x256_0_0)) (View.ld (arg6.view.read (Elt F) f5) (Rect.unit (s := S1x256) ![0, 0] S1x256.size inb_S1x256_S1x256_0_0)) from rfl).trans ?_; congr 1 <;> exact View.ld_unit_zero off_zero _ _

set_option maxHeartbeats 1000000 in
/-- At a later point the body stores the block of results and adds its statistics to those of the points before. -/
theorem bodyB_next (c : Dev nD) (E : Set ℕ) (i : grid1.Coords) (arg1 : Memref sig .tc .vmem S256x384 .f32) (harg1 : arg1.IsWhole) (arg2 : Memref sig .tc .vmem S2x384 .f32) (harg2 : arg2.IsWhole) (arg3 : Memref sig .tc .vmem S1x384 .f32) (harg3 : arg3.IsWhole) (arg4 : Memref sig .tc .vmem S1x384 .f32) (harg4 : arg4.IsWhole) (arg5 : Memref sig .tc .vmem S384x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S2x256 .f32) (harg8 : arg8.IsWhole)
    (h1 : ¬ k1_cond1 i = 1#1) (h2 : k1_cond2 i = 1#1)
    (x0 : Vec F S256x384 .f32) (x1 : Vec F S2x384 .f32) (x2 : Vec F S1x384 .f32) (x3 : Vec F S1x384 .f32) (x4 : Vec F S384x256 .f32) (x5 : Vec F S1x256 .f32) (xo : Vec F S2x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hB x0 x1 x2 x3 x4 x5) ∗ owns (c : Thread nD τ) arg8 fullShare (moreB x0 x1 x2 x3 x4 x5 xo)) -∗ K ⟨⟩))
      ⊢ wp frame (wpE (defs₀ (F := F)) Variants.none c none) E (cc1__pass_b i arg1 harg1 arg2 harg2 arg3 harg3 arg4 harg4 arg5 harg5 arg6 harg6 arg7 harg7 arg8 harg8) K := by
  simp only [cc1__pass_b_eq_skeleton]; unfold cc1__pass_b_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  sl_exec (disch := first | sl_exact h1 | sl_exact h2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr; swap; · iexact H6
    ipureintro; refine (View.read_writes_eq_canon _ _ _ (cover_one off_zero _)).trans ((View.canon_unit_zero off_zero _ _).trans ?_)
    refine (show _ = hB (View.ld (arg1.view.read (Elt F) f0) (Rect.unit (s := S256x384) ![0, 0] S256x384.size inb_S256x384_S256x384_0_0)) (arg2.view.read (Elt F) f1) (View.ld (arg3.view.read (Elt F) f2) (Rect.unit (s := S1x384) ![0, 0] S1x384.size inb_S1x384_S1x384_0_0)) (View.ld (arg4.view.read (Elt F) f3) (Rect.unit (s := S1x384) ![0, 0] S1x384.size inb_S1x384_S1x384_0_0)) (View.ld (arg5.view.read (Elt F) f4) (Rect.unit (s := S384x256) ![0, 0] S384x256.size inb_S384x256_S384x256_0_0)) (View.ld (arg6.view.read (Elt F) f5) (Rect.unit (s := S1x256) ![0, 0] S1x256.size inb_S1x256_S1x256_0_0)) from rfl).trans ?_; congr 1 <;> exact View.ld_unit_zero off_zero _ _
  · iexists _; isplitr; swap; · iexact H7
    ipureintro; refine (View.read_writes_eq_canon _ _ _ (cover_one off_zero _)).trans ((View.canon_unit_zero off_zero _ _).trans ?_)
    refine (show _ = moreB (View.ld (arg1.view.read (Elt F) f0) (Rect.unit (s := S256x384) ![0, 0] S256x384.size inb_S256x384_S256x384_0_0)) (arg2.view.read (Elt F) f1) (View.ld (arg3.view.read (Elt F) f2) (Rect.unit (s := S1x384) ![0, 0] S1x384.size inb_S1x384_S1x384_0_0)) (View.ld (arg4.view.read (Elt F) f3) (Rect.unit (s := S1x384) ![0, 0] S1x384.size inb_S1x384_S1x384_0_0)) (View.ld (arg5.view.read (Elt F) f4) (Rect.unit (s := S384x256) ![0, 0] S384x256.size inb_S384x256_S384x256_0_0)) (View.ld (arg6.view.read (Elt F) f5) (Rect.unit (s := S1x256) ![0, 0] S1x256.size inb_S1x256_S1x256_0_0)) (View.ld (arg8.view.read (Elt F) f7) (Rect.unit (s := S2x256) ![0, 0] S2x256.size inb_S2x256_S2x256_0_0)) from rfl).trans ?_; congr 1 <;> exact View.ld_unit_zero off_zero _ _

section Region
variable (V : (c : Dev nD) → (b : Ref sig .tc) → Buf (Elt F) ((c : Thread nD τ).loc b))

/-- The block of window `w` at point `t`, its array as it stands when the region is entered. -/
def blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the statistics window's buffer holds after point `n`: the first point's statistics, then each later
    point's added to what was there. -/
def statB (c : Dev nD) : (n : ℕ) → n < cfg1.N → Vec F S2x256 .f32
  | 0, h => partB (blkB V c 0 ⟨0, h⟩) (blkB V c 1 ⟨0, h⟩) (blkB V c 2 ⟨0, h⟩) (blkB V c 3 ⟨0, h⟩) (blkB V c 4 ⟨0, h⟩) (blkB V c 5 ⟨0, h⟩)
  | n + 1, h => moreB (blkB V c 0 ⟨n + 1, h⟩) (blkB V c 1 ⟨n + 1, h⟩) (blkB V c 2 ⟨n + 1, h⟩) (blkB V c 3 ⟨n + 1, h⟩) (blkB V c 4 ⟨n + 1, h⟩) (blkB V c 5 ⟨n + 1, h⟩) (statB c n (Nat.lt_of_succ_lt h))

/-- The data of pipeline 1: its arrays as the region finds them, and what the body leaves in each window's buffer. -/
def datB (c : Dev nD) : Dat τ (Elt F) Unit ℕ (UR sig nD τ) ℕ cfg1 c where
  A w := V c (Pipeline.arrRef spec1 w)
  after w t := match w with
    | ⟨0, _⟩ => blkB V c 0 t
    | ⟨1, _⟩ => blkB V c 1 t
    | ⟨2, _⟩ => blkB V c 2 t
    | ⟨3, _⟩ => blkB V c 3 t
    | ⟨4, _⟩ => blkB V c 4 t
    | ⟨5, _⟩ => blkB V c 5 t
    | ⟨6, _⟩ => hB (blkB V c 0 t) (blkB V c 1 t) (blkB V c 2 t) (blkB V c 3 t) (blkB V c 4 t) (blkB V c 5 t)
    | ⟨7, _⟩ => statB V c t.val t.isLt
  Φ _ := Pipeline.ΦA spec1 c
  q _ := fullShare
  owed _ := 0

theorem A_eqB (c : Dev nD) (w : Fin cfg1.W) : (datB V c).A w = V c (Pipeline.arrRef spec1 w) := by
  dsimp only [datB]
theorem afterB_0 (c : Dev nD) (t : Fin cfg1.N) : (datB V c).after 0 t = blkB V c 0 t := by dsimp only [datB]
theorem afterB_1 (c : Dev nD) (t : Fin cfg1.N) : (datB V c).after 1 t = blkB V c 1 t := by dsimp only [datB]
theorem afterB_2 (c : Dev nD) (t : Fin cfg1.N) : (datB V c).after 2 t = blkB V c 2 t := by dsimp only [datB]
theorem afterB_3 (c : Dev nD) (t : Fin cfg1.N) : (datB V c).after 3 t = blkB V c 3 t := by dsimp only [datB]
theorem afterB_4 (c : Dev nD) (t : Fin cfg1.N) : (datB V c).after 4 t = blkB V c 4 t := by dsimp only [datB]
theorem afterB_5 (c : Dev nD) (t : Fin cfg1.N) : (datB V c).after 5 t = blkB V c 5 t := by dsimp only [datB]
theorem afterB_6 (c : Dev nD) (t : Fin cfg1.N) : (datB V c).after 6 t = hB (blkB V c 0 t) (blkB V c 1 t) (blkB V c 2 t) (blkB V c 3 t) (blkB V c 4 t) (blkB V c 5 t) := by dsimp only [datB]
theorem afterB_7 (c : Dev nD) (t : Fin cfg1.N) : (datB V c).after 7 t = statB V c t.val t.isLt := by dsimp only [datB]

/-- An input window's buffer holds its block when the body is called, whether or not it was fetched at that point. -/
theorem beforeB_in (c : Dev nD) (w : Fin cfg1.W) (hw : (cfg1.win w).isOut = false) (hl : ∀ i, cfg1.idle w i = false)
    (hc : ∀ t t' : Fin cfg1.N, (cfg1.win w).index t = (cfg1.win w).index t' →
      (cfg1.win w).clip (cfg1.grid.coords t) = (cfg1.win w).clip (cfg1.grid.coords t'))
    (hk : ∀ t, (cfg1.win w).cut (cfg1.grid.coords t) ((datB V c).after w t) = blkB V c w t)
    (t : Fin cfg1.N) (d) : (datB V c).before w t d = (cfg1.win w).fill (cfg1.grid.coords t) d (blkB V c w t) :=
  ((datB V c).before_in_eq_fetched w hw hl hc (fun t => (hk t).trans rfl) t d).trans rfl
theorem beforeB_0 (c : Dev nD) (t : Fin cfg1.N) (d) : (datB V c).before 0 t d = blkB V c 0 t :=
  (beforeB_in V c 0 rfl (fun _ => rfl) (fun _ _ _ => rfl) (fun t => by rw [afterB_0]) t d).trans rfl
theorem beforeB_1 (c : Dev nD) (t : Fin cfg1.N) (d) : (datB V c).before 1 t d = blkB V c 1 t :=
  (beforeB_in V c 1 rfl (fun _ => rfl) (fun _ _ _ => rfl) (fun t => by rw [afterB_1]) t d).trans rfl
theorem beforeB_2 (c : Dev nD) (t : Fin cfg1.N) (d) : (datB V c).before 2 t d = blkB V c 2 t :=
  (beforeB_in V c 2 rfl (fun _ => rfl) (fun _ _ _ => rfl) (fun t => by rw [afterB_2]) t d).trans rfl
theorem beforeB_3 (c : Dev nD) (t : Fin cfg1.N) (d) : (datB V c).before 3 t d = blkB V c 3 t :=
  (beforeB_in V c 3 rfl (fun _ => rfl) (fun _ _ _ => rfl) (fun t => by rw [afterB_3]) t d).trans rfl
theorem beforeB_4 (c : Dev nD) (t : Fin cfg1.N) (d) : (datB V c).before 4 t d = blkB V c 4 t :=
  (beforeB_in V c 4 rfl (fun _ => rfl) (fun _ _ _ => rfl) (fun t => by rw [afterB_4]) t d).trans rfl
theorem beforeB_5 (c : Dev nD) (t : Fin cfg1.N) (d) : (datB V c).before 5 t d = blkB V c 5 t :=
  (beforeB_in V c 5 rfl (fun _ => rfl) (fun _ _ _ => rfl) (fun t => by rw [afterB_5]) t d).trans rfl

/-- The first condition holds at the first point only. -/
theorem condB_first (i : grid1.Coords) : k1_cond1 i = 1#1 ↔ (i 0).val = 0 := by
  have h : (i 0).val < 64 := (i 0).isLt
  simp only [k1_cond1]
  word_cmp

/-- The second condition holds at every other point. -/
theorem condB_next (i : grid1.Coords) : k1_cond2 i = 1#1 ↔ ¬ (i 0).val = 0 := by
  have h : (i 0).val < 64 := (i 0).isLt
  simp only [k1_cond2]
  word_cmp

/-- One of the two conditions holds at every point, so the statistics window is stored at every point. -/
theorem liveB (i : grid1.Coords) : cfg1.idle 7 i = false := by
  show (!(k1_cond1 i == 1#1) && !(k1_cond2 i == 1#1)) = false
  by_cases h : (i 0).val = 0
  · rw [(condB_first i).mpr h]; rfl
  · rw [(condB_next i).mpr h, Bool.and_comm]; rfl

/-- The grid coordinate of point `t` is `t`. -/
theorem coordB (t : Fin cfg1.N) : (grid1.coords t 0).val = t.val := by
  have ht : t.val < 64 := Nat.lt_of_lt_of_eq t.isLt N_1
  have e : (grid1.coords t 0).val = t.val / 1 % 64 := Pipeline.Grid.coords_val t 0 (by decide) rfl
  rw [e, Nat.div_one, Nat.mod_eq_of_lt ht]

/-- After the first point the statistics window's buffer holds what the point before left. -/
theorem beforeB_stat (c : Dev nD) (n : ℕ) (h : n + 1 < cfg1.N) (d) :
    (datB V c).before 7 ⟨n + 1, h⟩ d = statB V c n (Nat.lt_of_succ_lt h) := by
  have hN : n + 1 < 64 := lt_of_lt_of_eq h (show cfg1.N = 64 from N_1)
  rw [Dat.before_out_kept _ 7 rfl ⟨n + 1, h⟩ (Nat.succ_ne_zero n)
    (Bool.eq_false_iff.mpr fun hf => by have := (flush1_7 _).mp hf; dsimp only at this; omega) liveB (fun _ _ => rfl)]
  dsimp only [datB]; rfl

set_option maxHeartbeats 1600000 in
/-- The body at one point, from what its windows' buffers hold to what it leaves there. -/
theorem soundB (c : Dev nD) (t : Fin cfg1.N) :
    iprop((datB V c).Φ t.castSucc ∗ (datB V c).owesAt () t.castSucc
      ∗ (∃ d, owns (c : Thread nD τ) (st1_0 t) fullShare ((datB V c).before 0 t d))
      ∗ (∃ d, owns (c : Thread nD τ) (st1_1 t) fullShare ((datB V c).before 1 t d))
      ∗ (∃ d, owns (c : Thread nD τ) (st1_2 t) fullShare ((datB V c).before 2 t d))
      ∗ (∃ d, owns (c : Thread nD τ) (st1_3 t) fullShare ((datB V c).before 3 t d))
      ∗ (∃ d, owns (c : Thread nD τ) (st1_4 t) fullShare ((datB V c).before 4 t d))
      ∗ (∃ d, owns (c : Thread nD τ) (st1_5 t) fullShare ((datB V c).before 5 t d))
      ∗ (∃ d, owns (c : Thread nD τ) (st1_6 t) fullShare ((datB V c).before 6 t d))
      ∗ (∃ d, owns (c : Thread nD τ) (st1_7 t) fullShare ((datB V c).before 7 t d))
    ) ⊢ wp frame (wpE (defs₀ (F := F)) Variants.none c none) Set.univ (bodyAt1 t) (fun _ => iprop((datB V c).Φ t.succ ∗ (datB V c).owesAt () t.succ
      ∗ owns (c : Thread nD τ) (st1_0 t) fullShare ((datB V c).after 0 t)
      ∗ owns (c : Thread nD τ) (st1_1 t) fullShare ((datB V c).after 1 t)
      ∗ owns (c : Thread nD τ) (st1_2 t) fullShare ((datB V c).after 2 t)
      ∗ owns (c : Thread nD τ) (st1_3 t) fullShare ((datB V c).after 3 t)
      ∗ owns (c : Thread nD τ) (st1_4 t) fullShare ((datB V c).after 4 t)
      ∗ owns (c : Thread nD τ) (st1_5 t) fullShare ((datB V c).after 5 t)
      ∗ owns (c : Thread nD τ) (st1_6 t) fullShare ((datB V c).after 6 t)
      ∗ owns (c : Thread nD τ) (st1_7 t) fullShare ((datB V c).after 7 t)
    )) := by
  unfold bodyAt1
  simp only [beforeB_0, beforeB_1, beforeB_2, beforeB_3, beforeB_4, beforeB_5]
  rw [show (datB V c).Φ t.succ = (datB V c).Φ t.castSucc from rfl,
    show (datB V c).owesAt () t.succ = (datB V c).owesAt () t.castSucc from rfl,
    afterB_0, afterB_1, afterB_2, afterB_3, afterB_4, afterB_5, afterB_6, afterB_7]
  obtain ⟨n, hn⟩ := t
  cases n with
  | zero =>
    have e : (grid1.coords ⟨0, hn⟩ 0).val = 0 := coordB _
    simp only [statB]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyB_first c Set.univ (grid1.coords ⟨0, hn⟩) _ _ _ _ _ _ _ _ _ _ _ _ _ _ _ _ ((condB_first _).mpr e) (fun h => (condB_next _).mp h e) (blkB V c 0 ⟨0, hn⟩) (blkB V c 1 ⟨0, hn⟩) (blkB V c 2 ⟨0, hn⟩) (blkB V c 3 ⟨0, hn⟩) (blkB V c 4 ⟨0, hn⟩) (blkB V c 5 ⟨0, hn⟩) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  | succ n =>
    have e : ¬ (grid1.coords ⟨n + 1, hn⟩ 0).val = 0 := by rw [coordB]; exact Nat.succ_ne_zero n
    simp only [statB, beforeB_stat]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyB_next c Set.univ (grid1.coords ⟨n + 1, hn⟩) _ _ _ _ _ _ _ _ _ _ _ _ _ _ _ _ (fun h => e ((condB_first _).mp h)) ((condB_next _).mpr e) (blkB V c 0 ⟨n + 1, hn⟩) (blkB V c 1 ⟨n + 1, hn⟩) (blkB V c 2 ⟨n + 1, hn⟩) (blkB V c 3 ⟨n + 1, hn⟩) (blkB V c 4 ⟨n + 1, hn⟩) (blkB V c 5 ⟨n + 1, hn⟩) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

set_option maxHeartbeats 1600000 in
/-- The body's obligation at every point. -/
theorem obligationB (c : Dev nD) : BodyObligation (datB (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  refine triple_restated (soundB V c t) rfl .rfl fun _ => ?_
  have hl : cfg1.idle 7 (cfg1.grid.coords t) = false := liveB _
  rw [hl]

end Region

end Cert.KernelIdeal.Hand

end
-- ==== Proof.KernelIdeal.PassC.lean ====
/- The third pass of the kernel: what its body leaves at each point, and its obligation. -/
module

public import proofs.«01_k».proof.Proof.KernelIdeal.Whole

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The block of results a point of the third pass stores, from its input blocks. -/
def hC (x0 : Vec F S256x256 .f32) (x1 : Vec F S2x256 .f32) (x2 : Vec F S1x256 .f32) (x3 : Vec F S1x256 .f32) : Vec F S256x256 .f32 :=
  k2_pay1 (View.ld x1 (Rect.unit (s := S2x256) ![0, 0] S1x256.size inb_S2x256_S1x256_0_0)) (View.ld x1 (Rect.unit (s := S2x256) ![1, 0] S1x256.size inb_S2x256_S1x256_1_0))
    x2 x3 x0

set_option maxHeartbeats 1000000 in
/-- The body stores the block of results. -/
theorem bodyC (c : Dev nD) (E : Set ℕ) (i : grid2.Coords) (arg1 : Memref sig .tc .vmem S256x256 .f32) (harg1 : arg1.IsWhole) (arg2 : Memref sig .tc .vmem S2x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x256 .f32) (harg5 : arg5.IsWhole)
    (x0 : Vec F S256x256 .f32) (x1 : Vec F S2x256 .f32) (x2 : Vec F S1x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (hC x0 x1 x2 x3)) -∗ K ⟨⟩))
      ⊢ wp frame (wpE (defs₀ (F := F)) Variants.none c none) E (cc2__pass_c i arg1 harg1 arg2 harg2 arg3 harg3 arg4 harg4 arg5 harg5) K := by
  simp only [cc2__pass_c_eq_skeleton]; unfold cc2__pass_c_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  · iexists _; isplitr; swap; · iexact H4
    ipureintro; refine (View.read_writes_eq_canon _ _ _ (cover_one off_zero _)).trans ((View.canon_unit_zero off_zero _ _).trans ?_)
    refine (show _ = hC (View.ld (arg1.view.read (Elt F) f0) (Rect.unit (s := S256x256) ![0, 0] S256x256.size inb_S256x256_S256x256_0_0)) (arg2.view.read (Elt F) f1) (View.ld (arg3.view.read (Elt F) f2) (Rect.unit (s := S1x256) ![0, 0] S1x256.size inb_S1x256_S1x256_0_0)) (View.ld (arg4.view.read (Elt F) f3) (Rect.unit (s := S1x256) ![0, 0] S1x256.size inb_S1x256_S1x256_0_0)) from rfl).trans ?_; congr 1 <;> exact View.ld_unit_zero off_zero _ _

section Region
variable (V : (c : Dev nD) → (b : Ref sig .tc) → Buf (Elt F) ((c : Thread nD τ).loc b))

/-- The block of window `w` at point `t`, its array as it stands when the region is entered. -/
def blkC (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The data of pipeline 2: its arrays as the region finds them, and what the body leaves in each window's buffer. -/
def datC (c : Dev nD) : Dat τ (Elt F) Unit ℕ (UR sig nD τ) ℕ cfg2 c where
  A w := V c (Pipeline.arrRef spec2 w)
  after w t := match w with
    | ⟨0, _⟩ => blkC V c 0 t
    | ⟨1, _⟩ => blkC V c 1 t
    | ⟨2, _⟩ => blkC V c 2 t
    | ⟨3, _⟩ => blkC V c 3 t
    | ⟨4, _⟩ => hC (blkC V c 0 t) (blkC V c 1 t) (blkC V c 2 t) (blkC V c 3 t)
  Φ _ := Pipeline.ΦA spec2 c
  q _ := fullShare
  owed _ := 0

theorem A_eqC (c : Dev nD) (w : Fin cfg2.W) : (datC V c).A w = V c (Pipeline.arrRef spec2 w) := by
  dsimp only [datC]
theorem afterC_0 (c : Dev nD) (t : Fin cfg2.N) : (datC V c).after 0 t = blkC V c 0 t := by dsimp only [datC]
theorem afterC_1 (c : Dev nD) (t : Fin cfg2.N) : (datC V c).after 1 t = blkC V c 1 t := by dsimp only [datC]
theorem afterC_2 (c : Dev nD) (t : Fin cfg2.N) : (datC V c).after 2 t = blkC V c 2 t := by dsimp only [datC]
theorem afterC_3 (c : Dev nD) (t : Fin cfg2.N) : (datC V c).after 3 t = blkC V c 3 t := by dsimp only [datC]
theorem afterC_4 (c : Dev nD) (t : Fin cfg2.N) : (datC V c).after 4 t = hC (blkC V c 0 t) (blkC V c 1 t) (blkC V c 2 t) (blkC V c 3 t) := by dsimp only [datC]

/-- An input window's buffer holds its block when the body is called, whether or not it was fetched at that point. -/
theorem beforeC_in (c : Dev nD) (w : Fin cfg2.W) (hw : (cfg2.win w).isOut = false) (hl : ∀ i, cfg2.idle w i = false)
    (hc : ∀ t t' : Fin cfg2.N, (cfg2.win w).index t = (cfg2.win w).index t' →
      (cfg2.win w).clip (cfg2.grid.coords t) = (cfg2.win w).clip (cfg2.grid.coords t'))
    (hk : ∀ t, (cfg2.win w).cut (cfg2.grid.coords t) ((datC V c).after w t) = blkC V c w t)
    (t : Fin cfg2.N) (d) : (datC V c).before w t d = (cfg2.win w).fill (cfg2.grid.coords t) d (blkC V c w t) :=
  ((datC V c).before_in_eq_fetched w hw hl hc (fun t => (hk t).trans rfl) t d).trans rfl
theorem beforeC_0 (c : Dev nD) (t : Fin cfg2.N) (d) : (datC V c).before 0 t d = blkC V c 0 t :=
  (beforeC_in V c 0 rfl (fun _ => rfl) (fun _ _ _ => rfl) (fun t => by rw [afterC_0]) t d).trans rfl
theorem beforeC_1 (c : Dev nD) (t : Fin cfg2.N) (d) : (datC V c).before 1 t d = blkC V c 1 t :=
  (beforeC_in V c 1 rfl (fun _ => rfl) (fun _ _ _ => rfl) (fun t => by rw [afterC_1]) t d).trans rfl
theorem beforeC_2 (c : Dev nD) (t : Fin cfg2.N) (d) : (datC V c).before 2 t d = blkC V c 2 t :=
  (beforeC_in V c 2 rfl (fun _ => rfl) (fun _ _ _ => rfl) (fun t => by rw [afterC_2]) t d).trans rfl
theorem beforeC_3 (c : Dev nD) (t : Fin cfg2.N) (d) : (datC V c).before 3 t d = blkC V c 3 t :=
  (beforeC_in V c 3 rfl (fun _ => rfl) (fun _ _ _ => rfl) (fun t => by rw [afterC_3]) t d).trans rfl

set_option maxHeartbeats 1600000 in
/-- The body at one point, from what its windows' buffers hold to what it leaves there. -/
theorem soundC (c : Dev nD) (t : Fin cfg2.N) :
    iprop((datC V c).Φ t.castSucc ∗ (datC V c).owesAt () t.castSucc
      ∗ (∃ d, owns (c : Thread nD τ) (st2_0 t) fullShare ((datC V c).before 0 t d))
      ∗ (∃ d, owns (c : Thread nD τ) (st2_1 t) fullShare ((datC V c).before 1 t d))
      ∗ (∃ d, owns (c : Thread nD τ) (st2_2 t) fullShare ((datC V c).before 2 t d))
      ∗ (∃ d, owns (c : Thread nD τ) (st2_3 t) fullShare ((datC V c).before 3 t d))
      ∗ (∃ d, owns (c : Thread nD τ) (st2_4 t) fullShare ((datC V c).before 4 t d))
    ) ⊢ wp frame (wpE (defs₀ (F := F)) Variants.none c none) Set.univ (bodyAt2 t) (fun _ => iprop((datC V c).Φ t.succ ∗ (datC V c).owesAt () t.succ
      ∗ owns (c : Thread nD τ) (st2_0 t) fullShare ((datC V c).after 0 t)
      ∗ owns (c : Thread nD τ) (st2_1 t) fullShare ((datC V c).after 1 t)
      ∗ owns (c : Thread nD τ) (st2_2 t) fullShare ((datC V c).after 2 t)
      ∗ owns (c : Thread nD τ) (st2_3 t) fullShare ((datC V c).after 3 t)
      ∗ owns (c : Thread nD τ) (st2_4 t) fullShare ((datC V c).after 4 t)
    )) := by
  unfold bodyAt2
  simp only [beforeC_0, beforeC_1, beforeC_2, beforeC_3]
  rw [show (datC V c).Φ t.succ = (datC V c).Φ t.castSucc from rfl,
    show (datC V c).owesAt () t.succ = (datC V c).owesAt () t.castSucc from rfl,
    afterC_0, afterC_1, afterC_2, afterC_3, afterC_4]
  iintro ⟨HΦ, Ho, ⟨%d0, H0⟩, ⟨%d1, H1⟩, ⟨%d2, H2⟩, ⟨%d3, H3⟩, ⟨%d4, H4⟩⟩
  iapply (bodyC c Set.univ (grid2.coords t) _ _ _ _ _ _ _ _ _ _ (blkC V c 0 t) (blkC V c 1 t) (blkC V c 2 t) (blkC V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option maxHeartbeats 1600000 in
/-- The body's obligation at every point. -/
theorem obligationC (c : Dev nD) : BodyObligation (datC (F := F) V c) (defs₀ (F := F)) Variants.none () Set.univ := fun t => by
  rw [bigSep_W2, bigSep_W2, show defs₀ (F := F) .tc cfg2.body (cfg2.bodyArgs t (cfg2.slots t)) = bodyAt2 t from by
    unfold defs₀; rw [Defs.onTc_tc]]
  exact triple_restated (soundC V c t) rfl .rfl fun _ => .rfl

end Region

end Cert.KernelIdeal.Hand

end
-- ==== Proof.KernelIdeal.Run.lean ====
/- The kernel's run: its three passes and the host operations between them, from the launch to the return. -/
module

public import proofs.«01_k».proof.Proof.KernelIdeal.PassA
public import proofs.«01_k».proof.Proof.KernelIdeal.PassB
public import proofs.«01_k».proof.Proof.KernelIdeal.PassC

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_v0, main_v1, main_c, main_v2, main_v3, main_cst_0, main_v4, main_c_1, main_v5, main_v6, main_v7, main_v8, main_v9]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v11, main_v12, main_v13]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v15, main_v16]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (datA (V1 m ρ) c).arrAt w cfg0.N
theorem W2_arr (c : Dev nD) (w : Fin cfg0.W) :
    W2 m ρ c (Proc.devRef .tc (Pipeline.arrRef spec0 w)) = (datA (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eqA`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((datA (V1 m ρ) c).arrAt_in w (h w rfl) _).trans (A_eqA (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (datA (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (datB (V3 m ρ) c).arrAt w cfg1.N
theorem W4_arr (c : Dev nD) (w : Fin cfg1.W) :
    W4 m ρ c (Proc.devRef .tc (Pipeline.arrRef spec1 w)) = (datB (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eqB`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((datB (V3 m ρ) c).arrAt_in w (h w rfl) _).trans (A_eqB (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (datB (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (datC (V5 m ρ) c).arrAt w cfg2.N
theorem W6_arr (c : Dev nD) (w : Fin cfg2.W) :
    W6 m ρ c (Proc.devRef .tc (Pipeline.arrRef spec2 w)) = (datC (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eqC`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((datC (V5 m ρ) c).arrAt_in w (h w rfl) _).trans (A_eqC (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (datC (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => datA (V1 m ρ) c
  | ⟨1, _⟩ => fun c => datB (V3 m ρ) c
  | ⟨2, _⟩ => fun c => datC (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligationA (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eqA (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligationB (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eqB (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the launch reads at the end). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligationC (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eqC (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- From any memory with zero counters every weakly fair execution of the program ends, nothing faulting, with every
    unscoped buffer at the last boundary's contents `W6` and every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- A final state that holds `W6` has the arguments as launched. -/
theorem args_kept {r : (ℓ : Loc nD τ sig) → Buf (Elt F) ℓ} (c : Dev nD) (h : ∀ b ∈ Pipeline.ucRefs τ sig, r (((c : Thread nD τ)).1, b) = W6 m ρ c b) :
      r ((c.tc : Thread nD τ).loc main_arg0) = m ((c.tc : Thread nD τ).loc main_arg0)
      ∧ r ((c.tc : Thread nD τ).loc main_arg1) = m ((c.tc : Thread nD τ).loc main_arg1)
      ∧ r ((c.tc : Thread nD τ).loc main_arg2) = m ((c.tc : Thread nD τ).loc main_arg2)
      ∧ r ((c.tc : Thread nD τ).loc main_arg3) = m ((c.tc : Thread nD τ).loc main_arg3)
      ∧ r ((c.tc : Thread nD τ).loc main_arg4) = m ((c.tc : Thread nD τ).loc main_arg4)
      ∧ r ((c.tc : Thread nD τ).loc main_arg5) = m ((c.tc : Thread nD τ).loc main_arg5)
      ∧ r ((c.tc : Thread nD τ).loc main_arg6) = m ((c.tc : Thread nD τ).loc main_arg6)
      ∧ r ((c.tc : Thread nD τ).loc main_arg7) = m ((c.tc : Thread nD τ).loc main_arg7)
      ∧ r ((c.tc : Thread nD τ).loc main_arg8) = m ((c.tc : Thread nD τ).loc main_arg8)
      ∧ r ((c.tc : Thread nD τ).loc main_arg9) = m ((c.tc : Thread nD τ).loc main_arg9)
      ∧ r ((c.tc : Thread nD τ).loc main_arg10) = m ((c.tc : Thread nD τ).loc main_arg10)
      ∧ r ((c.tc : Thread nD τ).loc main_arg11) = m ((c.tc : Thread nD τ).loc main_arg11)
      ∧ r ((c.tc : Thread nD τ).loc main_arg12) = m ((c.tc : Thread nD τ).loc main_arg12)
      ∧ r ((c.tc : Thread nD τ).loc main_arg13) = m ((c.tc : Thread nD τ).loc main_arg13) :=
  ⟨(h _ (mem_uc main_arg0 (by decide))).trans (W6_args m ρ c main_arg0 (by decide)),
   (h _ (mem_uc main_arg1 (by decide))).trans (W6_args m ρ c main_arg1 (by decide)),
   (h _ (mem_uc main_arg2 (by decide))).trans (W6_args m ρ c main_arg2 (by decide)),
   (h _ (mem_uc main_arg3 (by decide))).trans (W6_args m ρ c main_arg3 (by decide)),
   (h _ (mem_uc main_arg4 (by decide))).trans (W6_args m ρ c main_arg4 (by decide)),
   (h _ (mem_uc main_arg5 (by decide))).trans (W6_args m ρ c main_arg5 (by decide)),
   (h _ (mem_uc main_arg6 (by decide))).trans (W6_args m ρ c main_arg6 (by decide)),
   (h _ (mem_uc main_arg7 (by decide))).trans (W6_args m ρ c main_arg7 (by decide)),
   (h _ (mem_uc main_arg8 (by decide))).trans (W6_args m ρ c main_arg8 (by decide)),
   (h _ (mem_uc main_arg9 (by decide))).trans (W6_args m ρ c main_arg9 (by decide)),
   (h _ (mem_uc main_arg10 (by decide))).trans (W6_args m ρ c main_arg10 (by decide)),
   (h _ (mem_uc main_arg11 (by decide))).trans (W6_args m ρ c main_arg11 (by decide)),
   (h _ (mem_uc main_arg12 (by decide))).trans (W6_args m ρ c main_arg12 (by decide)),
   (h _ (mem_uc main_arg13 (by decide))).trans (W6_args m ρ c main_arg13 (by decide))⟩

/-- The frame: every execution ends with the arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) ∧ r.2.sem = fun _ => 0) :=
  (θ_run defs _ _).mono (fun _ h => ⟨fun c => args_kept m ρ c (h.1 c), h.2⟩) (run m ρ)

end Cert.KernelIdeal.Hand

end
-- ==== Proof.Value.Real.lean ====
/- The mathematics of the block over the reals: squared distances, the three nearest points, their weights, the
   interpolation, and batch normalisation, with the facts both programs' values are read by. -/
module

public import Idealize.ShloMosaic.PureOps
public import Idealize.ShloMosaic.PureOps.Ideal
public import Idealize.ShloMosaic.PureOps.Ideal.Laws
public import Idealize.ShloMosaic.Lib.SortFacts
public import Idealize.ShloMosaic.Lib.ValueIdx
public import Idealize.ShloMosaic.Lib.IdealHost

@[expose] public section

noncomputable section

namespace Cert.Interp

open Idealize.ShloMosaic

/-! ## Reals among the extended reals -/

/-- An array of reals of two axes, as the idealised programs hold it. -/
def lift2 {a b : ℕ} (f : Fin a → Fin b → ℝ) : (⟨2, ![a, b]⟩ : Shape).Idx → EReal := fun i => ((f (i 0) (i 1) : ℝ) : EReal)

/-- An array of reals of one axis. -/
def lift1 {a : ℕ} (f : Fin a → ℝ) : (⟨1, ![a]⟩ : Shape).Idx → EReal := fun i => ((f (i 0) : ℝ) : EReal)

/-- An array of extended reals of two axes. -/
def arr2 {a b : ℕ} (f : Fin a → Fin b → EReal) : (⟨2, ![a, b]⟩ : Shape).Idx → EReal := fun i => f (i 0) (i 1)

/-- An array of extended reals of one axis. -/
def arr1 {a : ℕ} (f : Fin a → EReal) : (⟨1, ![a]⟩ : Shape).Idx → EReal := fun i => f (i 0)

theorem arr2_ix2 {a b : ℕ} (f : Fin a → Fin b → EReal) (r : Fin a) (c : Fin b) : arr2 f (ValueIdx.ix2 r c) = f r c := rfl

/-- An array of reals is an array of extended reals. -/
theorem lift2_arr {a b : ℕ} (f : Fin a → Fin b → ℝ) : lift2 f = arr2 (fun r c => ((f r c : ℝ) : EReal)) := rfl

theorem lift2_ix2 {a b : ℕ} (f : Fin a → Fin b → ℝ) (r : Fin a) (c : Fin b) : lift2 f (ValueIdx.ix2 r c) = ((f r c : ℝ) : EReal) := rfl

/-- Two arrays of two axes agree if they agree at every pair of coordinates. -/
theorem ext2 {a b : ℕ} {α : Type} {x y : (⟨2, ![a, b]⟩ : Shape).Idx → α} (h : ∀ r c, x (ValueIdx.ix2 r c) = y (ValueIdx.ix2 r c)) : x = y :=
  funext fun i => by rw [ValueIdx.eq_ix2 i]; exact h _ _

/-- A finite sum of reals is the same sum among the extended reals. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The greater of two reals is the same among the extended reals. -/
theorem coe_max (a b : ℝ) : ((max a b : ℝ) : EReal) = max (a : EReal) b := EReal.coe_strictMono.monotone.map_max

/-- A quotient by a nonzero real is the product with its inverse. -/
theorem div_real (a : EReal) {b : ℝ} (hb : b ≠ 0) : Ideal.div a (b : EReal) = a * ((b⁻¹ : ℝ) : EReal) := by
  unfold Ideal.div
  rw [if_neg (by exact_mod_cast hb), ← EReal.coe_inv]

/-- A quotient by an infinity is nought. -/
theorem div_bot (a : EReal) : Ideal.div a ⊥ = 0 := by
  unfold Ideal.div
  rw [if_neg (by simp), EReal.inv_bot, mul_zero]

theorem div_top (a : EReal) : Ideal.div a ⊤ = 0 := by
  unfold Ideal.div
  rw [if_neg (by simp), EReal.inv_top, mul_zero]

/-- A sum of numbers at least nought, one of them infinite, is infinite. -/
theorem sum_eq_top {ι : Type*} [Fintype ι] (f : ι → EReal) (h0 : ∀ i, 0 ≤ f i) (i : ι) (hi : f i = ⊤) : ∑ k, f k = ⊤ :=
  top_le_iff.mp (hi ▸ Finset.single_le_sum (fun k _ => h0 k) (Finset.mem_univ i))

/-- A quotient of reals by a nonzero real is theirs. -/
theorem div_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The square root of a nonnegative real is its own. -/
theorem sqrt_coe {a : ℝ} (ha : 0 ≤ a) : Ideal.sqrt (a : EReal) = ((Real.sqrt a : ℝ) : EReal) := by
  show (if a < 0 then (⊥ : EReal) else (Real.sqrt a : EReal)) = _
  rw [if_neg (not_lt.mpr ha)]

/-- The least distance an inverse is taken of. -/
def tiny : ℝ := 15111573 / 2 ^ 77

/-- The number added to a variance. -/
def eps : ℝ := 10995116 / 2 ^ 40

theorem tiny_pos : 0 < tiny := by unfold tiny; positivity

theorem eps_pos : 0 < eps := by unfold eps; positivity

theorem ofBits_tiny : Ideal.ofBits .f32 0x24E69595#32 = ((tiny : ℝ) : EReal) := by
  unfold tiny
  simp [Ideal.ofBits, Ideal.ieee, -EReal.coe_mul]; norm_num

theorem ofBits_eps : Ideal.ofBits .f32 0x3727C5AC#32 = ((eps : ℝ) : EReal) := by
  unfold eps
  simp [Ideal.ofBits, Ideal.ieee, -EReal.coe_mul]; norm_num

theorem ofBits_one : Ideal.ofBits .f32 0x3F800000#32 = ((1 : ℝ) : EReal) := by rw [Ideal.ofBits_one_f32]; rfl

theorem ofBits_zero : Ideal.ofBits .f32 0x00000000#32 = ((0 : ℝ) : EReal) := by rw [Ideal.ofBits_zero_f32]; rfl

theorem ofBits_two : Ideal.ofBits .f32 0x40000000#32 = ((2 : ℝ) : EReal) := by
  simp [Ideal.ofBits, Ideal.ieee, -EReal.coe_mul]; norm_num

theorem ofBits_count : Ideal.ofBits .f32 0x46800000#32 = ((16384 : ℝ) : EReal) := by
  simp [Ideal.ofBits, Ideal.ieee, -EReal.coe_mul]; norm_num

theorem ofBits_share : Ideal.ofBits .f32 0x38800000#32 = ((1 / 16384 : ℝ) : EReal) := by
  simp [Ideal.ofBits, Ideal.ieee, -EReal.coe_mul]; norm_num

theorem ofBits_top : Ideal.ofBits .f32 0x7F800000#32 = ⊤ := by
  simp [Ideal.ofBits, Ideal.ieee]

/-! ## The three nearest -/

/-- Nearer first; at equal distances the lower place first. -/
def Before {n : ℕ} (d : Fin n → ℝ) (a b : Fin n) : Prop := d a < d b ∨ (d a = d b ∧ a < b)

/-- Place `j` holds the least value and is the lowest place that does. -/
def Low {n : ℕ} (c : Fin n → EReal) (j : Fin n) : Prop := ∀ j', c j < c j' ∨ (c j = c j' ∧ j ≤ j')

/-- Inserting the lowest place into a list in order leaves it in order. -/
theorem insert_before {n : ℕ} (d : Fin n → ℝ) (a : Fin n) (l : List (Fin n)) (ha : ∀ b ∈ l, a < b) (hl : l.Pairwise (Before d)) :
    (insertBefore (fun x y => decide (d x < d y)) a l).Pairwise (Before d) := by
  induction l with
  | nil => simp [insertBefore]
  | cons b l ih =>
    obtain ⟨hb, hl'⟩ := List.pairwise_cons.mp hl
    unfold insertBefore
    split
    · next h =>
      have h : d b < d a := by simpa using h
      refine List.pairwise_cons.mpr ⟨fun x hx => ?_, ih (fun y hy => ha y (List.mem_cons_of_mem _ hy)) hl'⟩
      rcases List.mem_cons.mp ((perm_insertBefore _ a l).mem_iff.mp hx) with rfl | hx
      · exact .inl h
      · exact hb x hx
    · next h =>
      have h : d a ≤ d b := by simpa using h
      refine List.pairwise_cons.mpr ⟨fun x hx => ?_, hl⟩
      have hlt : a < x := ha x hx
      have hle : d a ≤ d x := by
        rcases List.mem_cons.mp hx with rfl | hx
        · exact h
        · rcases hb x hx with h' | h'
          · exact h.trans h'.le
          · exact h.trans h'.1.le
      rcases hle.lt_or_eq with h' | h'
      · exact .inl h'
      · exact .inr ⟨h', hlt⟩

/-- The stable sort of places in increasing order by distance is in order. -/
theorem sort_before {n : ℕ} (d : Fin n → ℝ) (l : List (Fin n)) (hl : l.Pairwise (· < ·)) :
    (stableSort (fun x y => decide (d x < d y)) l).Pairwise (Before d) := by
  induction l with
  | nil => simp [stableSort]
  | cons a l ih =>
    obtain ⟨ha, hl'⟩ := List.pairwise_cons.mp hl
    unfold stableSort
    exact insert_before d a _ (fun b hb => ha b ((perm_stableSort _ l).mem_iff.mp hb)) (ih hl')

/-- The `k`-th nearest place, as a stable sort by distance gives it. -/
def near {n : ℕ} (d : Fin n → ℝ) (k : Fin n) : Fin n := sortedFrom (fun x y => decide (d x < d y)) k

/-- A place that is none of those before the `k`-th is the `k`-th or comes after it. -/
theorem near_rest {n : ℕ} (d : Fin n → ℝ) (k j : Fin n) (h : ∀ k', k' < k → near d k' ≠ j) : j = near d k ∨ Before d (near d k) j := by
  have hs := sort_before d (List.finRange n) (List.pairwise_lt_finRange n)
  have hm : j ∈ sortPositions n (fun x y => decide (d x < d y)) :=
    (perm_sortPositions n _).mem_iff.mpr (List.mem_finRange j)
  obtain ⟨i, hi, rfl⟩ := List.getElem_of_mem hm
  have hi' : i < n := by rwa [length_sortPositions] at hi
  rcases lt_trichotomy i k.val with hlt | heq | hgt
  · exact absurd rfl (h ⟨i, hi'⟩ hlt)
  · left; subst heq; rfl
  · right; exact List.pairwise_iff_getElem.mp hs k.val i (by rw [← sortPositions, length_sortPositions]; exact k.isLt) hi hgt

/-- Different ranks are at different places. -/
theorem near_ne {n : ℕ} (d : Fin n → ℝ) {k k' : Fin n} (h : k < k') : near d k ≠ near d k' := by
  have hs := sort_before d (List.finRange n) (List.pairwise_lt_finRange n)
  have := List.pairwise_iff_getElem.mp hs k.val k'.val (by rw [← sortPositions, length_sortPositions]; exact k.isLt)
    (by rw [← sortPositions, length_sortPositions]; exact k'.isLt) h
  have this : Before d (near d k) (near d k') := this
  intro e
  rw [e] at this
  rcases this with h' | h'
  · exact lt_irrefl _ h'
  · exact lt_irrefl _ h'.2

/-- The distances with one place taken out. -/
def without {n : ℕ} (c : Fin n → EReal) (j : Fin n) : Fin n → EReal := fun j' => if j' = j then ⊤ else c j'

theorem Before.low {n : ℕ} {d : Fin n → ℝ} {a b : Fin n} (h : b = a ∨ Before d a b) :
    ((d a : ℝ) : EReal) < ((d b : ℝ) : EReal) ∨ (((d a : ℝ) : EReal) = ((d b : ℝ) : EReal) ∧ a ≤ b) := by
  rcases h with rfl | h | h
  · exact .inr ⟨rfl, le_rfl⟩
  · exact .inl (by exact_mod_cast h)
  · exact .inr ⟨by exact_mod_cast h.1, h.2.le⟩

theorem without_self {n : ℕ} (c : Fin n → EReal) (j : Fin n) : without c j j = ⊤ := if_pos rfl

theorem without_ne {n : ℕ} (c : Fin n → EReal) {j j' : Fin n} (h : j' ≠ j) : without c j j' = c j' := if_neg h

/-- The first three ranks. -/
def k0 : Fin 4096 := ⟨0, by norm_num⟩
def k1 : Fin 4096 := ⟨1, by norm_num⟩
def k2 : Fin 4096 := ⟨2, by norm_num⟩

theorem rank01 : k0 < k1 := Fin.lt_def.mpr Nat.one_pos

theorem rank12 : k1 < k2 := Fin.lt_def.mpr Nat.one_lt_two

theorem rank02 : k0 < k2 := rank01.trans rank12

theorem eq_k0 {k : Fin 4096} (h : k < k1) : k = k0 := Fin.ext (Nat.lt_one_iff.mp (Fin.lt_def.mp h))

theorem eq_k01 {k : Fin 4096} (h : k < k2) : k = k0 ∨ k = k1 := by
  have h : k.val < 2 := Fin.lt_def.mp h
  rcases (by omega : k.val = 0 ∨ k.val = 1) with e | e
  · exact .inl (Fin.ext e)
  · exact .inr (Fin.ext e)

/-- The distances of the 4096 places as extended reals, none taken out, one taken out, two taken out. -/
def left0 (d : Fin 4096 → ℝ) : Fin 4096 → EReal := fun j => ((d j : ℝ) : EReal)
def left1 (d : Fin 4096 → ℝ) : Fin 4096 → EReal := without (left0 d) (near d k0)
def left2 (d : Fin 4096 → ℝ) : Fin 4096 → EReal := without (left1 d) (near d k1)

theorem left1_near (d : Fin 4096 → ℝ) : left1 d (near d k1) = ((d (near d k1) : ℝ) : EReal) :=
  without_ne _ (near_ne d rank01).symm

theorem left2_near (d : Fin 4096 → ℝ) : left2 d (near d k2) = ((d (near d k2) : ℝ) : EReal) :=
  (without_ne _ (near_ne d rank12).symm).trans (without_ne _ (near_ne d rank02).symm)

theorem low0 (d : Fin 4096 → ℝ) : Low (left0 d) (near d k0) := fun j' =>
  Before.low (near_rest d k0 j' fun _ hk' => absurd (Fin.lt_def.mp hk') (Nat.not_lt_zero _))

theorem low1 (d : Fin 4096 → ℝ) : Low (left1 d) (near d k1) := fun j' => by
  rw [left1_near]
  by_cases h0 : j' = near d k0
  · left; rw [left1, h0, without_self]; exact EReal.coe_lt_top _
  · rw [left1, without_ne _ h0]
    exact Before.low (near_rest d k1 j' fun k' hk' e => h0 (by rw [← e, eq_k0 hk']))

theorem low2 (d : Fin 4096 → ℝ) : Low (left2 d) (near d k2) := fun j' => by
  rw [left2_near]
  by_cases h1 : j' = near d k1
  · left; rw [left2, h1, without_self]; exact EReal.coe_lt_top _
  rw [left2, without_ne _ h1]
  by_cases h0 : j' = near d k0
  · left; rw [left1, h0, without_self]; exact EReal.coe_lt_top _
  · rw [left1, without_ne _ h0]
    refine Before.low (near_rest d k2 j' fun k' hk' e => ?_)
    rcases eq_k01 hk' with e' | e'
    · exact h0 (by rw [← e, e'])
    · exact h1 (by rw [← e, e'])

/-! ## Weights and interpolation -/

/-- The weight of a distance: its inverse, the distance cut below. -/
def wt (t : ℝ) : ℝ := 1 / max tiny (max t 0)

theorem wt_pos (t : ℝ) : 0 < wt t := by
  unfold wt; exact one_div_pos.mpr (lt_of_lt_of_le tiny_pos (le_max_left _ _))

/-- The weight read off extended reals. -/
theorem wt_coe (t : ℝ) : Ideal.div ((1 : ℝ) : EReal) (max ((tiny : ℝ) : EReal) (max ((t : ℝ) : EReal) ((0 : ℝ) : EReal))) = ((wt t : ℝ) : EReal) := by
  rw [← coe_max, ← coe_max, div_coe _ (ne_of_gt (lt_of_lt_of_le tiny_pos (le_max_left _ _)))]; rfl

/-- The sum of the three weights. -/
def wsum (d : Fin 4096 → ℝ) : ℝ := wt (d (near d k0)) + wt (d (near d k1)) + wt (d (near d k2))

theorem wsum_pos (d : Fin 4096 → ℝ) : 0 < wsum d := add_pos (add_pos (wt_pos _) (wt_pos _)) (wt_pos _)

/-- The interpolated value of one feature, whatever extended reals the feature takes. -/
def interp (d : Fin 4096 → ℝ) (x : Fin 4096 → EReal) : EReal :=
  Ideal.div (((wt (d (near d k0)) : ℝ) : EReal) * x (near d k0) + ((wt (d (near d k1)) : ℝ) : EReal) * x (near d k1)
    + ((wt (d (near d k2)) : ℝ) : EReal) * x (near d k2)) ((wsum d : ℝ) : EReal)

/-- The weights spread over all places: zero but at the three nearest. -/
def spread (d : Fin 4096 → ℝ) (j : Fin 4096) : ℝ :=
  (if j = near d k0 then wt (d (near d k0)) else 0) + (if j = near d k1 then wt (d (near d k1)) else 0) + (if j = near d k2 then wt (d (near d k2)) else 0)

/-- A quotient of a weight at one place by a positive number, times a value. -/
theorem part_spread {n : ℕ} (j k : Fin n) (w u : ℝ) (x : Fin n → EReal) :
    (((if j = k then w else 0) / u : ℝ) : EReal) * x j = if j = k then ((w / u : ℝ) : EReal) * x j else 0 := by
  split
  · rfl
  · rw [zero_div, EReal.coe_zero, zero_mul]

theorem part_nonneg {n : ℕ} (j k : Fin n) {w u : ℝ} (hw : 0 < w) (hu : 0 < u) : (0 : EReal) ≤ (((if j = k then w else 0) / u : ℝ) : EReal) :=
  EReal.coe_nonneg.mpr (div_nonneg (by split <;> [exact hw.le; exact le_rfl]) hu.le)

/-- The product of the spread weights with a feature is its interpolated value. -/
theorem sum_spread (d : Fin 4096 → ℝ) (x : Fin 4096 → EReal) : ∑ j, ((spread d j / wsum d : ℝ) : EReal) * x j = interp d x := by
  have hu := wsum_pos d
  have e : ∀ j, ((spread d j / wsum d : ℝ) : EReal) * x j
      = (if j = near d k0 then ((wt (d (near d k0)) / wsum d : ℝ) : EReal) * x j else 0)
        + (if j = near d k1 then ((wt (d (near d k1)) / wsum d : ℝ) : EReal) * x j else 0)
        + (if j = near d k2 then ((wt (d (near d k2)) / wsum d : ℝ) : EReal) * x j else 0) := fun j => by
    have h0 := part_nonneg j (near d k0) (wt_pos (d (near d k0))) hu
    have h1 := part_nonneg j (near d k1) (wt_pos (d (near d k1))) hu
    have h2 := part_nonneg j (near d k2) (wt_pos (d (near d k2))) hu
    unfold spread
    rw [add_div, add_div, EReal.coe_add, EReal.coe_add, EReal.right_distrib_of_nonneg (add_nonneg h0 h1) h2,
      EReal.right_distrib_of_nonneg h0 h1, part_spread, part_spread, part_spread]
  simp only [e]
  rw [Finset.sum_add_distrib, Finset.sum_add_distrib]
  simp only [Finset.sum_ite_eq', Finset.mem_univ, if_true]
  unfold interp
  have hi : (0 : EReal) ≤ (((wsum d)⁻¹ : ℝ) : EReal) := EReal.coe_nonneg.mpr (inv_pos.mpr hu).le
  have ht : (((wsum d)⁻¹ : ℝ) : EReal) ≠ ⊤ := EReal.coe_ne_top _
  rw [div_real _ hu.ne', mul_comm _ (((wsum d)⁻¹ : ℝ) : EReal), EReal.left_distrib_of_nonneg_of_ne_top hi ht,
    EReal.left_distrib_of_nonneg_of_ne_top hi ht, ← mul_assoc, ← mul_assoc, ← mul_assoc, ← EReal.coe_mul, ← EReal.coe_mul, ← EReal.coe_mul]
  simp only [div_eq_inv_mul]

/-! ## Batch normalisation of a column of 16384 -/

/-- The mean of a column. -/
def mean (h : Fin 16384 → ℝ) : ℝ := (∑ i, h i) / 16384

/-- The variance of a column about its mean. -/
def var (h : Fin 16384 → ℝ) : ℝ := (∑ i, (h i - mean h) * (h i - mean h)) / 16384

theorem var_nonneg (h : Fin 16384 → ℝ) : 0 ≤ var h :=
  div_nonneg (Finset.sum_nonneg fun _ _ => mul_self_nonneg _) (by norm_num)

/-- The variance is the mean of the squares less the square of the mean. -/
theorem var_eq (h : Fin 16384 → ℝ) : (∑ i, h i * h i) * (1 / 16384) - (∑ i, h i) * (1 / 16384) * ((∑ i, h i) * (1 / 16384)) = var h := by
  have e : ∀ i, (h i - mean h) * (h i - mean h) = h i * h i - 2 * mean h * h i + mean h * mean h := fun i => by ring
  unfold var
  simp only [e]
  rw [Finset.sum_add_distrib, Finset.sum_sub_distrib, ← Finset.mul_sum, Finset.sum_const, Finset.card_univ, Fintype.card_fin]
  unfold mean
  simp only [nsmul_eq_mul]
  push_cast
  ring

/-- The deviation under the root is positive. -/
theorem dev_pos (h : Fin 16384 → ℝ) : 0 < Real.sqrt (var h + eps) := Real.sqrt_pos.mpr (add_pos_of_nonneg_of_pos (var_nonneg h) eps_pos)

/-- A normalised entry, before the offset is added. -/
def norm (h : Fin 16384 → ℝ) (g : ℝ) (i : Fin 16384) : ℝ := g * (h i - mean h) / Real.sqrt (var h + eps)

/-- Scaling and shifting by the folded coefficients is normalising and adding the offset, whatever extended real it is. -/
theorem fold_norm (h : Fin 16384 → ℝ) (g : ℝ) (b : EReal) (i : Fin 16384) :
    ((h i * (g / Real.sqrt (var h + eps)) : ℝ) : EReal) + (b - ((mean h * (g / Real.sqrt (var h + eps)) : ℝ) : EReal))
      = ((norm h g i : ℝ) : EReal) + b := by
  rw [sub_eq_add_neg, ← EReal.coe_neg, add_left_comm, ← EReal.coe_add, add_comm]
  congr 2
  unfold norm; ring

/-! ### Columns that may be infinite -/

/-- The mean of a column of extended reals. -/
def colMean (h : Fin 16384 → EReal) : EReal := Ideal.div (∑ i, h i) ((16384 : ℝ) : EReal)

/-- The variance of a column of extended reals about its mean. -/
def colVar (h : Fin 16384 → EReal) : EReal := Ideal.div (∑ i, (h i - colMean h) * (h i - colMean h)) ((16384 : ℝ) : EReal)

/-- A normalised entry of a column of extended reals, before the offset is added. -/
def colNorm (h : Fin 16384 → EReal) (g : ℝ) (i : Fin 16384) : EReal :=
  Ideal.div ((g : EReal) * (h i - colMean h)) (Ideal.sqrt (colVar h + ((eps : ℝ) : EReal)))

/-- The mean as a sum times the inverse of the count. -/
def shareMean (h : Fin 16384 → EReal) : EReal := (∑ i, h i) * ((1 / 16384 : ℝ) : EReal)

/-- The scale folded from the mean of squares less the squared mean. -/
def foldScale (h : Fin 16384 → EReal) (g : ℝ) : EReal :=
  Ideal.div (g : EReal) (Ideal.sqrt ((∑ i, h i * h i) * ((1 / 16384 : ℝ) : EReal) - shareMean h * shareMean h + ((eps : ℝ) : EReal)))

theorem colMean_coe (h : Fin 16384 → ℝ) : colMean (fun i => ((h i : ℝ) : EReal)) = ((mean h : ℝ) : EReal) := by
  unfold colMean mean
  rw [← coe_sum, div_coe _ (by norm_num)]

theorem colVar_coe (h : Fin 16384 → ℝ) : colVar (fun i => ((h i : ℝ) : EReal)) = ((var h : ℝ) : EReal) := by
  unfold colVar var
  simp only [colMean_coe, ← EReal.coe_sub, ← EReal.coe_mul]
  rw [← coe_sum, div_coe _ (by norm_num)]

theorem colNorm_coe (h : Fin 16384 → ℝ) (g : ℝ) (i : Fin 16384) : colNorm (fun i => ((h i : ℝ) : EReal)) g i = ((norm h g i : ℝ) : EReal) := by
  unfold colNorm norm
  rw [colMean_coe, colVar_coe, ← EReal.coe_sub, ← EReal.coe_mul, ← EReal.coe_add, sqrt_coe (add_nonneg (var_nonneg h) eps_pos.le), div_coe _ (ne_of_gt (dev_pos h))]

theorem shareMean_coe (h : Fin 16384 → ℝ) : shareMean (fun i => ((h i : ℝ) : EReal)) = ((mean h : ℝ) : EReal) := by
  unfold shareMean mean
  rw [← coe_sum, ← EReal.coe_mul, mul_one_div]

theorem foldScale_coe (h : Fin 16384 → ℝ) (g : ℝ) : foldScale (fun i => ((h i : ℝ) : EReal)) g = ((g / Real.sqrt (var h + eps) : ℝ) : EReal) := by
  unfold foldScale
  have e : (∑ i, h i * h i) * (1 / 16384) - mean h * mean h = var h := by rw [← var_eq, ← div_eq_mul_one_div (∑ i, h i)]; rfl
  rw [shareMean_coe]
  simp only [← EReal.coe_mul]
  rw [← coe_sum, ← EReal.coe_mul, ← EReal.coe_sub, ← EReal.coe_add, e, sqrt_coe (add_nonneg (var_nonneg h) eps_pos.le), div_coe _ (ne_of_gt (dev_pos h))]

/-- Scaling and shifting a column of numbers at least nought by the folded coefficients is normalising it and adding the offset: where
    the column has an infinite entry both sides are the offset. -/
theorem fold_colNorm (h : Fin 16384 → EReal) (h0 : ∀ i, 0 ≤ h i) (g : ℝ) (b : EReal) (i : Fin 16384) :
    h i * foldScale h g + (b - shareMean h * foldScale h g) = colNorm h g i + b := by
  by_cases ht : ∃ k, h k = ⊤
  · obtain ⟨k, hk⟩ := ht
    have hs : ∑ i, h i = ⊤ := sum_eq_top h h0 k hk
    have hm : shareMean h = ⊤ := by unfold shareMean; rw [hs, EReal.top_mul_coe_of_pos (by norm_num)]
    have hc : colMean h = ⊤ := by
      unfold colMean; rw [hs, div_real _ (by norm_num), EReal.top_mul_coe_of_pos (by norm_num)]
    have hf : foldScale h g = 0 := by
      unfold foldScale
      rw [hm, EReal.top_mul_top, EReal.sub_top, EReal.bot_add]
      exact div_bot _
    have hv : colVar h = ⊤ := by
      unfold colVar
      simp only [hc, EReal.sub_top, EReal.bot_mul_bot]
      rw [sum_eq_top _ (fun _ => le_top) k rfl, div_real _ (by norm_num), EReal.top_mul_coe_of_pos (by norm_num)]
    unfold colNorm
    rw [hf, hv, EReal.top_add_coe, mul_zero, mul_zero, sub_zero, zero_add]
    exact ((congrArg (· + b) (div_top _)).trans (zero_add b)).symm
  · have e : h = fun i => (((h i).toReal : ℝ) : EReal) := funext fun i =>
      (EReal.coe_toReal (fun e => ht ⟨i, e⟩) (fun e => by have := h0 i; rw [e] at this; simp at this)).symm
    rw [e, foldScale_coe, shareMean_coe, colNorm_coe]
    simp only [← EReal.coe_mul]
    exact fold_norm _ g b i

end Cert.Interp

end
-- ==== Proof.Value.Round.lean ====
/- One round of the kernel's search in a tile: the row's least distance, the place it is at, the weight of it. -/
module

public import proofs.«01_k».proof.Proof.Value.Real
public import proofs.«01_k».proof.Proof.KernelIdeal.PassA
public import Idealize.ShloMosaic.Lib.ValueLayout
public import Idealize.ShloMosaic.Lib.ValueLayoutCasts
public import Idealize.ShloMosaic.Lib.Pipeline.Value
public import Idealize.ShloMosaic.Lib.SortNet.Extract
public import Idealize.ShloMosaic.Lib.MatmulPlain

@[expose] public section

set_option maxRecDepth 16384

noncomputable section

namespace Cert.Interp

open Idealize.ShloMosaic Idealize.ShloMosaic.ValueIdx
open Cert.KernelIdeal Cert.KernelIdeal.Gen

/-- The least value of each row of a tile, as a column. -/
def least (cur : FVec Ideal S256x4096 .f32) : FVec Ideal S256x1 .f32 :=
  shapeCast S256x1 (multiReduction (F := Ideal) .minimumf [1] S256 cur 0x7F800000#32 reduces_S256x4096_S256 (.inl rfl) rfl) shapeCasts_S256_S256x1

/-- The bits marking in each row of a tile the lowest place that holds the row's least value. -/
def hits (cur : FVec Ideal S256x4096 .f32) : IVec S256x4096 1 :=
  cmpi .eq (iota .tc S256x4096 32 [1] iota_S256x4096_d1_w32) (broadcastTo S256x4096 (shapeCast S256x1
    (multiReductionI .minsi [1] S256 (select (cmpf .oeq cur (broadcastTo S256x4096 (least cur) broadcasts_S256x1_S256x4096))
      (iota .tc S256x4096 32 [1] iota_S256x4096_d1_w32) (broadcast S256x4096 4096#32)) 2147483647#32 reduces_S256x4096_S256 rfl)
    shapeCasts_S256_S256x1) broadcasts_S256x1_S256x4096)

/-- The weights of a column of distances. -/
def weights (m : FVec Ideal S256x1 .f32) : FVec Ideal S256x1 .f32 :=
  divf (broadcast S256x1 (Scalar.ofBits .f32 0x3F800000#32)) (maximumf (broadcast S256x1 (Scalar.ofBits .f32 0x24E69595#32))
    (maximumf m (broadcast S256x1 (Scalar.ofBits .f32 0x00000000#32))))

/-- A tile with the marked places set to the greatest value. -/
def strike (cur : FVec Ideal S256x4096 .f32) : FVec Ideal S256x4096 .f32 :=
  select (hits cur) (broadcast S256x4096 (Scalar.ofBits .f32 0x7F800000#32)) cur

/-- A column read along every place of its row. -/
theorem broadcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · next e => have := p.isLt; omega
    · rfl
  | ⟨1, _⟩ => rfl

theorem lift_row (r : Fin 256) (k : Fin 4096) : (reduces_S256x4096_S256).lift (ix1 r) k = ix2 r k :=
  funext fun a => match a with
    | ⟨0, _⟩ => rfl
    | ⟨1, _⟩ => rfl

/-- The signed value of a place's number is the number. -/
theorem toInt_place (n : ℕ) (h : n < 2 ^ 31) : (BitVec.ofNat 32 n).toInt = n := by
  have : (BitVec.ofNat 32 n).toNat = n := by rw [BitVec.toNat_ofNat]; exact Nat.mod_eq_of_lt (by omega)
  rw [BitVec.toInt_eq_toNat_of_lt (by rw [this]; omega), this]

variable {cur : FVec Ideal S256x4096 .f32} {r : Fin 256} {c : Fin 4096 → EReal} {j0 : Fin 4096}

/-- The row's least value is the value at its lowest place. -/
theorem least_apply (hc : ∀ j, cur (ix2 r j) = c j) (hl : Low c j0) (u : Fin 1) : least cur (ix2 r u) = c j0 := by
  unfold least
  refine (shapeCast_a_a1_apply _ _ _ _).trans ?_
  refine (multiReduction_minimumf_eq_fold _ _ _ _ _ _).trans ((Shape.Reduces.fold_filter_drop_single _ _ _ _ _).trans ?_)
  have e : (cur ∘ (reduces_S256x4096_S256).lift (ix1 r)) = c := funext fun k => (congrArg cur (lift_row r k)).trans (hc k)
  rw [e]
  have top : (FloatOps.ofBits (F := Ideal) .f32 0x7F800000#32 : EReal) = ⊤ := ofBits_top
  rw [top]
  show (Finset.univ : Finset (Fin 4096)).fold (min : EReal → EReal → EReal) ⊤ c = c j0
  apply le_antisymm
  · exact (Finset.fold_min_le _).mpr (.inr ⟨j0, Finset.mem_univ _, le_rfl⟩)
  · refine (Finset.le_fold_min _).mpr ⟨le_top, fun x _ => ?_⟩
    rcases hl x with h | h
    · exact h.le
    · exact h.1.le

/-- The lowest place among those that hold the least value. -/
theorem place_apply (hc : ∀ j, cur (ix2 r j) = c j) (hl : Low c j0) :
    multiReductionI .minsi [1] S256 (select (cmpf .oeq cur (broadcastTo S256x4096 (least cur) broadcasts_S256x1_S256x4096))
      (iota .tc S256x4096 32 [1] iota_S256x4096_d1_w32) (broadcast S256x4096 4096#32)) 2147483647#32 reduces_S256x4096_S256 rfl (ix1 r)
      = BitVec.ofNat 32 j0.val := by
  refine (multiReductionI_eq_fold _ _ _ _ _ _).trans ((Shape.Reduces.fold_filter_drop_single _ _ _ _ _).trans ?_)
  have key : ∀ k : Fin 4096, select (cmpf .oeq cur (broadcastTo S256x4096 (least cur) broadcasts_S256x1_S256x4096))
      (iota .tc S256x4096 32 [1] iota_S256x4096_d1_w32) (broadcast S256x4096 4096#32) (ix2 r k)
      = if c k = c j0 then BitVec.ofNat 32 k.val else 4096#32 := fun k => by
    rw [select_apply, ValueIdx.cmpf_apply, broadcast_col, hc, least_apply hc hl, iota_single_apply, broadcast_apply]
    show Scalar.select (Ideal.cmp .oeq (c k) (c j0)) _ _ = _
    by_cases h : c k = c j0
    · rw [if_pos h, show Ideal.cmp .oeq (c k) (c j0) = 1#1 from by simp [Ideal.cmp, h]]; rfl
    · rw [if_neg h, show Ideal.cmp .oeq (c k) (c j0) = 0#1 from by simp [Ideal.cmp, h]]; rfl
  have e : (select (cmpf .oeq cur (broadcastTo S256x4096 (least cur) broadcasts_S256x1_S256x4096))
      (iota .tc S256x4096 32 [1] iota_S256x4096_d1_w32) (broadcast S256x4096 4096#32) ∘ (reduces_S256x4096_S256).lift (ix1 r))
      = fun k : Fin 4096 => if c k = c j0 then BitVec.ofNat 32 k.val else 4096#32 := funext fun k =>
    (congrArg (select _ _ _) (lift_row r k)).trans (key k)
  rw [e]
  apply BitVec.eq_of_toInt_eq
  rw [toInt_place _ (by have := j0.isLt; omega)]
  have hom := Finset.fold_hom (s := (Finset.univ : Finset (Fin 4096))) (op := IKind.minsi.op) (op' := (min : ℤ → ℤ → ℤ)) (m := BitVec.toInt)
    (b := (2147483647#32 : BitVec 32)) (f := fun k : Fin 4096 => if c k = c j0 then BitVec.ofNat 32 k.val else 4096#32) (fun x y => SortNet.toInt_minsi x y)
  refine hom.symm.trans ?_
  have top : (2147483647#32 : BitVec 32).toInt = 2147483647 := by decide
  rw [top]
  apply le_antisymm
  · refine (Finset.fold_min_le _).mpr (.inr ⟨j0, Finset.mem_univ _, ?_⟩)
    simp only [if_true]
    rw [toInt_place _ (by have := j0.isLt; omega)]
  · refine (Finset.le_fold_min _).mpr ⟨?_, fun x _ => ?_⟩
    · have := j0.isLt
      omega
    · have := j0.isLt
      have := x.isLt
      split
      · next h =>
        rw [toInt_place _ (by omega)]
        rcases hl x with h' | h'
        · exact absurd h.symm h'.ne
        · exact_mod_cast h'.2
      · rw [show (4096#32 : BitVec 32).toInt = 4096 from by decide]; omega

/-- The row's mark is at its lowest place and nowhere else. -/
theorem hits_apply (hc : ∀ j, cur (ix2 r j) = c j) (hl : Low c j0) (j : Fin 4096) : hits cur (ix2 r j) = if j = j0 then 1#1 else 0#1 := by
  unfold hits
  show IntOp.cmpi .eq (iota .tc S256x4096 32 [1] iota_S256x4096_d1_w32 (ix2 r j)) (broadcastTo S256x4096 _ broadcasts_S256x1_S256x4096 (ix2 r j)) = _
  rw [broadcast_col, iota_single_apply]
  refine (congrArg (IntOp.cmpi .eq (BitVec.ofNat 32 j.val)) ((shapeCast_a_a1_apply _ _ _ _).trans (place_apply hc hl))).trans ?_
  have hj := j.isLt
  have hj0 := j0.isLt
  by_cases h : j = j0
  · subst h; rw [if_pos rfl]; simp [IntOp.cmpi]
  · rw [if_neg h]
    have : BitVec.ofNat 32 j.val ≠ BitVec.ofNat 32 j0.val := fun e => h (Fin.ext (by
      have := congrArg BitVec.toNat e
      rwa [BitVec.toNat_ofNat, BitVec.toNat_ofNat, Nat.mod_eq_of_lt (by omega), Nat.mod_eq_of_lt (by omega)] at this))
    show BitVec.ofBool (BitVec.ofNat 32 j.val == BitVec.ofNat 32 j0.val) = 0#1
    rw [beq_eq_false_iff_ne.mpr this]; rfl

/-- The tile with the least value taken out of the row. -/
theorem strike_apply (hc : ∀ j, cur (ix2 r j) = c j) (hl : Low c j0) (j : Fin 4096) : strike cur (ix2 r j) = without c j0 j := by
  unfold strike
  rw [select_apply, hits_apply hc hl, hc, broadcast_apply]
  by_cases h : j = j0
  · rw [if_pos h, h, without_self]; exact ofBits_top
  · rw [if_neg h, without_ne _ h]; rfl

/-- The weight of a row's distance. -/
theorem weights_apply {m : FVec Ideal S256x1 .f32} {t : ℝ} {u : Fin 1} (hm : m (ix2 r u) = ((t : ℝ) : EReal)) : weights m (ix2 r u) = ((wt t : ℝ) : EReal) := by
  unfold weights
  rw [ValueIdx.divf_apply, ValueIdx.maximumf_apply, ValueIdx.maximumf_apply, hm, broadcast_apply, broadcast_apply, broadcast_apply]
  refine (congrArg₂ Ideal.div ofBits_one (congrArg₂ max ofBits_tiny (congrArg (max _) ofBits_zero))).trans (wt_coe t)

end Cert.Interp

end
-- ==== Proof.Value.Lift.lean ====
/- The vector operations on arrays of reals and of extended reals: each gives the array of the numbers' own results. -/
module

public import proofs.«01_k».proof.Proof.Value.Round

@[expose] public section

set_option maxRecDepth 16384

noncomputable section

namespace Cert.Interp

open Idealize.ShloMosaic Idealize.ShloMosaic.ValueIdx

variable {a b c : ℕ}

theorem mulf_lift (f g : Fin a → Fin b → ℝ) : mulf (F := Ideal) (φ := .f32) (lift2 f) (lift2 g) = lift2 (fun r j => f r j * g r j) :=
  funext fun i => (EReal.coe_mul (f (i 0) (i 1)) (g (i 0) (i 1))).symm

theorem addf_lift (f g : Fin a → Fin b → ℝ) : addf (F := Ideal) (φ := .f32) (lift2 f) (lift2 g) = lift2 (fun r j => f r j + g r j) :=
  funext fun i => (EReal.coe_add (f (i 0) (i 1)) (g (i 0) (i 1))).symm

theorem subf_lift (f g : Fin a → Fin b → ℝ) : subf (F := Ideal) (φ := .f32) (lift2 f) (lift2 g) = lift2 (fun r j => f r j - g r j) :=
  funext fun i => (EReal.coe_sub (f (i 0) (i 1)) (g (i 0) (i 1))).symm

theorem divf_lift (f g : Fin a → Fin b → ℝ) (h : ∀ r j, g r j ≠ 0) :
    divf (F := Ideal) (φ := .f32) (lift2 f) (lift2 g) = lift2 (fun r j => f r j / g r j) :=
  funext fun i => div_coe (f (i 0) (i 1)) (h (i 0) (i 1))

/-- A literal at every place. -/
theorem broadcast_lift {w : BitVec 32} {t : ℝ} (h : Ideal.ofBits .f32 w = ((t : ℝ) : EReal)) :
    broadcast (⟨2, ![a, b]⟩ : Shape) (Scalar.ofBits (F := Ideal) .f32 w) = lift2 (fun _ _ => t) :=
  funext fun _ => h

/-- A column along every place of its row. -/
theorem col_lift (f : Fin a → Fin 1 → ℝ) (h : (⟨2, ![a, 1]⟩ : Shape).Broadcasts ⟨2, ![a, b]⟩) :
    broadcastTo ⟨2, ![a, b]⟩ (lift2 f) h = lift2 (fun r _ => f r 0) :=
  ext2 fun r j => broadcast_col (lift2 f) h r j

/-- A row along every row. -/
theorem row_lift (f : Fin 1 → Fin b → ℝ) (h : (⟨2, ![1, b]⟩ : Shape).Broadcasts ⟨2, ![a, b]⟩) :
    broadcastTo ⟨2, ![a, b]⟩ (lift2 f) h = lift2 (fun _ j => f 0 j) :=
  ext2 fun r j => broadcastTo_1b_ab_apply (lift2 f) h r j

/-- A one-axis array cast to a column. -/
theorem cast_col_lift (f : Fin a → ℝ) (h : (⟨1, ![a]⟩ : Shape).ShapeCasts ⟨2, ![a, 1]⟩) :
    shapeCast ⟨2, ![a, 1]⟩ (lift1 f) h = lift2 (fun r _ => f r) :=
  ext2 fun r u => shapeCast_a_a1_apply (lift1 f) h r u

/-- A one-axis array cast to a row. -/
theorem cast_row_lift (f : Fin b → ℝ) (h : (⟨1, ![b]⟩ : Shape).ShapeCasts ⟨2, ![1, b]⟩) :
    shapeCast ⟨2, ![1, b]⟩ (lift1 f) h = lift2 (fun _ j => f j) :=
  ext2 fun u j => shapeCast_a_1a_apply (lift1 f) h u j

/-- The sums of the rows. -/
theorem rowsum_lift (f : Fin a → Fin b → ℝ) (h : (⟨2, ![a, b]⟩ : Shape).Reduces [1] ⟨1, ![a]⟩) :
    multiReduction (F := Ideal) (φ := .f32) .add [1] ⟨1, ![a]⟩ (lift2 f) 0x00000000#32 h (.inl rfl) rfl = lift1 (fun r => ∑ k, f r k) :=
  funext fun i => (Ideal.multiReduction_add_single _ _ h _ _ i).trans (by
    rw [eq_ix1 i]
    refine Eq.trans ?_ (coe_sum Finset.univ (fun k => f (i 0) k)).symm
    exact Finset.sum_congr rfl fun k _ => rfl)

/-- The sums of the columns. -/
theorem colsum_lift (f : Fin a → Fin b → ℝ) (h : (⟨2, ![a, b]⟩ : Shape).Reduces [0] ⟨1, ![b]⟩) :
    multiReduction (F := Ideal) (φ := .f32) .add [0] ⟨1, ![b]⟩ (lift2 f) 0x00000000#32 h (.inl rfl) rfl = lift1 (fun j => ∑ k, f k j) :=
  funext fun i => (Ideal.multiReduction_add_single _ _ h _ _ i).trans (by
    rw [eq_ix1 i]
    refine Eq.trans ?_ (coe_sum Finset.univ (fun k => f k (i 0))).symm
    exact Finset.sum_congr rfl fun k _ => rfl)

/-- A product of matrices into zero. -/
theorem matmul_lift (D : DotDims ⟨2, ![a, b]⟩ ⟨2, ![b, c]⟩ ⟨2, ![a, c]⟩) (hD : D = DotDims.plain a b c) (f : Fin a → Fin b → ℝ) (g : Fin b → Fin c → ℝ) :
    matmul (F := Ideal) (φ₁ := .f32) (φ₂ := .f32) D none (lift2 f) (lift2 g) (constant ⟨2, ![a, c]⟩ .f32 0x00000000#32) = lift2 (fun r j => ∑ k, f r k * g k j) := by
  subst hD
  refine ext2 fun r j => (Ideal.matmul_plain_apply none (lift2 f) (lift2 g) _ r j).trans ?_
  refine (congrArg (· + _) Ideal.ofBits_zero_f32).trans ((zero_add _).trans ?_)
  refine Eq.trans ?_ (coe_sum Finset.univ (fun k => f r k * g k j)).symm
  exact Finset.sum_congr rfl fun k _ => (EReal.coe_mul _ _).symm

/-! ## Arrays of extended reals -/

theorem mulf_arr (f g : Fin a → Fin b → EReal) : mulf (F := Ideal) (φ := .f32) (arr2 f) (arr2 g) = arr2 (fun r j => f r j * g r j) := rfl

theorem addf_arr (f g : Fin a → Fin b → EReal) : addf (F := Ideal) (φ := .f32) (arr2 f) (arr2 g) = arr2 (fun r j => f r j + g r j) := rfl

theorem subf_arr (f g : Fin a → Fin b → EReal) : subf (F := Ideal) (φ := .f32) (arr2 f) (arr2 g) = arr2 (fun r j => f r j - g r j) := rfl

theorem maximumf_arr (f g : Fin a → Fin b → EReal) : maximumf (F := Ideal) (φ := .f32) (arr2 f) (arr2 g) = arr2 (fun r j => max (f r j) (g r j)) := rfl

theorem divf_arr (f g : Fin a → Fin b → EReal) : divf (F := Ideal) (φ := .f32) (arr2 f) (arr2 g) = arr2 (fun r j => Ideal.div (f r j) (g r j)) := rfl

theorem sqrt_arr (f : Fin a → Fin b → EReal) : sqrt (F := Ideal) (φ := .f32) (arr2 f) = arr2 (fun r j => Ideal.sqrt (f r j)) := rfl

/-- A literal at every place. -/
theorem broadcast_arr {w : BitVec 32} {t : EReal} (h : Ideal.ofBits .f32 w = t) :
    broadcast (⟨2, ![a, b]⟩ : Shape) (Scalar.ofBits (F := Ideal) .f32 w) = arr2 (fun _ _ => t) :=
  funext fun _ => h

/-- A row along every row. -/
theorem row_arr (f : Fin 1 → Fin b → EReal) (h : (⟨2, ![1, b]⟩ : Shape).Broadcasts ⟨2, ![a, b]⟩) :
    broadcastTo ⟨2, ![a, b]⟩ (arr2 f) h = arr2 (fun _ j => f 0 j) :=
  ext2 fun r j => broadcastTo_1b_ab_apply (arr2 f) h r j

/-- A one-axis array cast to a row. -/
theorem cast_row_arr (f : Fin b → EReal) (h : (⟨1, ![b]⟩ : Shape).ShapeCasts ⟨2, ![1, b]⟩) :
    shapeCast ⟨2, ![1, b]⟩ (arr1 f) h = arr2 (fun _ j => f j) :=
  ext2 fun u j => shapeCast_a_1a_apply (arr1 f) h u j

/-- The sums of the columns. -/
theorem colsum_arr (f : Fin a → Fin b → EReal) (h : (⟨2, ![a, b]⟩ : Shape).Reduces [0] ⟨1, ![b]⟩) :
    multiReduction (F := Ideal) (φ := .f32) .add [0] ⟨1, ![b]⟩ (arr2 f) 0x00000000#32 h (.inl rfl) rfl = arr1 (fun j => ∑ k, f k j) :=
  funext fun i => (Ideal.multiReduction_add_single _ _ h _ _ i).trans (by
    rw [eq_ix1 i]
    exact Finset.sum_congr rfl fun k _ => rfl)

/-- A product of matrices into zero. -/
theorem matmul_arr (D : DotDims ⟨2, ![a, b]⟩ ⟨2, ![b, c]⟩ ⟨2, ![a, c]⟩) (hD : D = DotDims.plain a b c) (f : Fin a → Fin b → EReal) (g : Fin b → Fin c → EReal) :
    matmul (F := Ideal) (φ₁ := .f32) (φ₂ := .f32) D none (arr2 f) (arr2 g) (constant ⟨2, ![a, c]⟩ .f32 0x00000000#32) = arr2 (fun r j => ∑ k, f r k * g k j) := by
  subst hD
  refine ext2 fun r j => (Ideal.matmul_plain_apply none (arr2 f) (arr2 g) _ r j).trans ?_
  exact (congrArg (· + _) Ideal.ofBits_zero_f32).trans (zero_add _)

/-- The column sums of an array and of its squares. -/
def stats (f : Fin a → Fin b → EReal) (s : Fin 2) (o : Fin b) : EReal := if s = 0 then ∑ r, f r o else ∑ r, f r o * f r o

/-- Two rows one over the other. -/
theorem rows_arr (f g : Fin 1 → Fin b → EReal) (h : Shape.Concatenates [(⟨2, ![1, b]⟩ : Shape), ⟨2, ![1, b]⟩] ⟨2, ![2, b]⟩ 0) :
    concatenate (⟨2, ![2, b]⟩ : Shape) 0 [⟨⟨2, ![1, b]⟩, arr2 f⟩, ⟨⟨2, ![1, b]⟩, arr2 g⟩] h = arr2 (fun s o => if s = 0 then f 0 o else g 0 o) := by
  refine ext2 fun s o => ?_
  rw [arr2_ix2]
  by_cases hs : s = 0
  · subst hs
    refine concatenate_pair_apply_left (t := ⟨2, ![2, b]⟩) (0 : Fin 2) (arr2 f) (arr2 g) h (ix2 0 o) rfl (ix2 0 o) (fun b => ?_)
    match b with
    | ⟨0, _⟩ => rfl
    | ⟨1, _⟩ => rfl
  · have h1 : s = 1 := by omega
    subst h1
    refine concatenate_pair_apply_right (t := ⟨2, ![2, b]⟩) (0 : Fin 2) (arr2 f) (arr2 g) h (ix2 1 o) rfl rfl (ix2 0 o) (fun b hb => ?_) (Nat.zero_add 1)
    match b, hb with
    | ⟨0, _⟩, hb => exact absurd rfl hb
    | ⟨1, _⟩, _ => rfl

end Cert.Interp

end
-- ==== Proof.Value.TileA.lean ====
/- What a point of the first pass stores, over the reals: the first layer of the tile's rows and its column sums. -/
module

public import proofs.«01_k».proof.Proof.Value.Lift

@[expose] public section

set_option maxRecDepth 16384

noncomputable section

namespace Cert.Interp

open Idealize.ShloMosaic Idealize.ShloMosaic.ValueIdx
open Cert.KernelIdeal Cert.KernelIdeal.Gen Cert.KernelIdeal.Hand

/-- The squared distances of some rows, from their padded query rows and the padded place columns. -/
def tileDist {n : ℕ} (Q : Fin n → Fin 8 → ℝ) (P : Fin 8 → Fin 4096 → ℝ) (r : Fin n) (j : Fin 4096) : ℝ :=
  (∑ k, Q r k * Q r k) + (∑ k, P k j * P k j) - 2 * ∑ k, Q r k * P k j

/-- The first layer of some rows. -/
def tileLay {n : ℕ} (Q : Fin n → Fin 8 → ℝ) (P : Fin 8 → Fin 4096 → ℝ) (X : Fin 4096 → Fin 256 → EReal) (S : Fin n → Fin 128 → EReal)
    (Wa : Fin 256 → Fin 384 → EReal) (Wb : Fin 128 → Fin 384 → EReal) (B : Fin 1 → Fin 384 → EReal) (r : Fin n) (o : Fin 384) : EReal :=
  max ((∑ c, interp (tileDist Q P r) (fun j => X j c) * Wa c o) + (∑ c, S r c * Wb c o) + B 0 o) 0

/-- The tile of squared distances. -/
theorem dist_lift (Q : Fin 256 → Fin 8 → ℝ) (P : Fin 8 → Fin 4096 → ℝ) : k0_pay1 (F := Ideal) (lift2 Q) (lift2 P) = lift2 (tileDist Q P) := by
  unfold k0_pay1
  dsimp only
  rw [shapeCast_self, shapeCast_self, mulf_lift, mulf_lift, rowsum_lift, colsum_lift, cast_col_lift, cast_row_lift, col_lift, row_lift, addf_lift,
    matmul_lift dot_S256x8_S8x4096_S256x4096_1_0_0_1_n_n rfl, broadcast_lift ofBits_two, mulf_lift, subf_lift]
  rfl

variable (d : Fin 256 → Fin 4096 → ℝ)

theorem cur1_apply (r : Fin 256) (j : Fin 4096) : strike (lift2 d) (ix2 r j) = left1 (d r) j :=
  strike_apply (c := left0 (d r)) (fun _ => rfl) (low0 (d r)) j

theorem cur2_apply (r : Fin 256) (j : Fin 4096) : strike (strike (lift2 d)) (ix2 r j) = left2 (d r) j :=
  strike_apply (c := left1 (d r)) (cur1_apply d r) (low1 (d r)) j

/-- The weights of the three rounds. -/
theorem weight0 : weights (least (lift2 d)) = lift2 (fun r _ => wt (d r (near (d r) k0))) :=
  ext2 fun r u => weights_apply (least_apply (c := left0 (d r)) (fun _ => rfl) (low0 (d r)) u)

theorem weight1 : weights (least (strike (lift2 d))) = lift2 (fun r _ => wt (d r (near (d r) k1))) :=
  ext2 fun r u => weights_apply ((least_apply (c := left1 (d r)) (cur1_apply d r) (low1 (d r)) u).trans (left1_near _))

theorem weight2 : weights (least (strike (strike (lift2 d)))) = lift2 (fun r _ => wt (d r (near (d r) k2))) :=
  ext2 fun r u => weights_apply ((least_apply (c := left2 (d r)) (cur2_apply d r) (low2 (d r)) u).trans (left2_near _))

/-- A row's number at its marked place and zero elsewhere. -/
theorem mark_lift {cur : FVec Ideal S256x4096 .f32} {c : Fin 256 → Fin 4096 → EReal} {n : Fin 256 → Fin 4096} (w : Fin 256 → Fin 4096 → ℝ)
    (hc : ∀ r j, cur (ix2 r j) = c r j) (hl : ∀ r, Low (c r) (n r)) :
    select (hits cur) (lift2 w) (broadcast S256x4096 (Scalar.ofBits (F := Ideal) .f32 0x00000000#32)) = lift2 (fun r j => if j = n r then w r j else 0) := by
  refine ext2 fun r j => ?_
  rw [select_apply, hits_apply (hc r) (hl r)]
  show Scalar.select _ ((w r j : ℝ) : EReal) _ = (((if j = n r then w r j else 0 : ℝ)) : EReal)
  by_cases h : j = n r
  · rw [if_pos h, if_pos h]; rfl
  · rw [if_neg h, if_neg h]; exact ofBits_zero

/-- The three marks of a tile laid over one another, each with its row's weight. -/
def spreadTile (cur : FVec Ideal S256x4096 .f32) : FVec Ideal S256x4096 .f32 :=
  addf (addf (addf (broadcast S256x4096 (Scalar.ofBits .f32 0x00000000#32))
    (select (hits cur) (broadcastTo S256x4096 (shapeCast S256x1 (weights (least cur)) shapeCasts_S256x1_S256x1) broadcasts_S256x1_S256x4096)
      (broadcast S256x4096 (Scalar.ofBits .f32 0x00000000#32))))
    (select (hits (strike cur)) (broadcastTo S256x4096 (shapeCast S256x1 (weights (least (strike cur))) shapeCasts_S256x1_S256x1) broadcasts_S256x1_S256x4096)
      (broadcast S256x4096 (Scalar.ofBits .f32 0x00000000#32))))
    (select (hits (strike (strike cur))) (broadcastTo S256x4096 (shapeCast S256x1 (weights (least (strike (strike cur)))) shapeCasts_S256x1_S256x1) broadcasts_S256x1_S256x4096)
      (broadcast S256x4096 (Scalar.ofBits .f32 0x00000000#32)))

/-- The sums of the three weights of a tile's rows. -/
def wsumTile (cur : FVec Ideal S256x4096 .f32) : FVec Ideal S256x1 .f32 :=
  addf (addf (addf (broadcast S256x1 (Scalar.ofBits .f32 0x00000000#32)) (weights (least cur))) (weights (least (strike cur))))
    (weights (least (strike (strike cur))))

/-- The layer of a tile from its marks and sums of weights. -/
def layTile (A : FVec Ideal S256x4096 .f32) (ws : FVec Ideal S256x1 .f32) (x2 : FVec Ideal S4096x256 .f32) (x3 : FVec Ideal S256x128 .f32)
    (x4 : FVec Ideal S256x384 .f32) (x5 : FVec Ideal S128x384 .f32) (x6 : FVec Ideal S1x384 .f32) : FVec Ideal S256x384 .f32 :=
  maximumf (addf (addf
      (matmul dot_S256x256_S256x384_S256x384_1_0_0_1_n_n none
        (matmul dot_S256x4096_S4096x256_S256x256_1_0_0_1_n_n none (divf A (broadcastTo S256x4096 ws broadcasts_S256x1_S256x4096)) x2
          (constant S256x256 .f32 0x00000000#32) : FVec Ideal S256x256 .f32)
        (shapeCast S256x384 x4 shapeCasts_S256x384_S256x384) (constant S256x384 .f32 0x00000000#32))
      (matmul dot_S256x128_S128x384_S256x384_1_0_0_1_n_n none x3 (shapeCast S128x384 x5 shapeCasts_S128x384_S128x384) (constant S256x384 .f32 0x00000000#32)))
      (broadcastTo S256x384 (shapeCast S1x384 x6 shapeCasts_S1x384_S1x384) broadcasts_S1x384_S256x384))
    (broadcast S256x384 (Scalar.ofBits .f32 0x00000000#32))

theorem spread_lift : spreadTile (lift2 d) = lift2 (fun r j => spread (d r) j) := by
  unfold spreadTile
  rw [shapeCast_self, shapeCast_self, shapeCast_self, weight0, weight1, weight2, col_lift, col_lift, col_lift,
    mark_lift (c := fun r => left0 (d r)) _ (fun _ _ => rfl) (fun r => low0 (d r)),
    mark_lift (c := fun r => left1 (d r)) _ (cur1_apply d) (fun r => low1 (d r)),
    mark_lift (c := fun r => left2 (d r)) _ (cur2_apply d) (fun r => low2 (d r)), broadcast_lift ofBits_zero, addf_lift, addf_lift, addf_lift]
  congr 1; funext r j
  unfold spread; rw [zero_add]

theorem wsum_lift : wsumTile (lift2 d) = lift2 (fun r _ => wsum (d r)) := by
  unfold wsumTile
  rw [weight0, weight1, weight2, broadcast_lift ofBits_zero, addf_lift, addf_lift, addf_lift]
  congr 1; funext r j
  unfold wsum; rw [zero_add]

/-- The first pass's block of results is the layer of its tile. -/
theorem hA_tile (x0 : Vec Ideal S256x8 .f32) (x1 : Vec Ideal S8x4096 .f32) (x2 : Vec Ideal S4096x256 .f32) (x3 : Vec Ideal S256x128 .f32)
    (x4 : Vec Ideal S256x384 .f32) (x5 : Vec Ideal S128x384 .f32) (x6 : Vec Ideal S1x384 .f32) :
    hA (F := Ideal) x0 x1 x2 x3 x4 x5 x6 = layTile (spreadTile (k0_pay1 x0 x1)) (wsumTile (k0_pay1 x0 x1)) x2 x3 x4 x5 x6 := rfl

variable (Q : Fin 256 → Fin 8 → ℝ) (P : Fin 8 → Fin 4096 → ℝ) (X : Fin 4096 → Fin 256 → EReal) (S : Fin 256 → Fin 128 → EReal)
    (Wa : Fin 256 → Fin 384 → EReal) (Wb : Fin 128 → Fin 384 → EReal) (B : Fin 1 → Fin 384 → EReal)

theorem hA_lift : hA (F := Ideal) (lift2 Q) (lift2 P) (arr2 X) (arr2 S) (arr2 Wa) (arr2 Wb) (arr2 B) = arr2 (tileLay Q P X S Wa Wb B) := by
  rw [hA_tile, dist_lift, spread_lift, wsum_lift]
  unfold layTile
  rw [shapeCast_self, shapeCast_self, shapeCast_self, col_lift, divf_lift _ _ (fun r _ => ne_of_gt (wsum_pos _)), lift2_arr (fun r j => spread _ j / wsum _), matmul_arr dot_S256x4096_S4096x256_S256x256_1_0_0_1_n_n rfl]
  simp only [sum_spread]
  rw [matmul_arr dot_S256x256_S256x384_S256x384_1_0_0_1_n_n rfl, matmul_arr dot_S256x128_S128x384_S256x384_1_0_0_1_n_n rfl, addf_arr, row_arr, addf_arr, broadcast_arr Ideal.ofBits_zero_f32, maximumf_arr]
  rfl

/-- The statistics of a block, as its column sums stacked. -/
def statTileA (h : FVec Ideal S256x384 .f32) : FVec Ideal S2x384 .f32 :=
  concatenate S2x384 0 [⟨S1x384, shapeCast S1x384 (multiReduction (F := Ideal) (φ := .f32) .add [0] S384 h 0x00000000#32 reduces_S256x384_S384 (.inl rfl) rfl) shapeCasts_S384_S1x384⟩,
    ⟨S1x384, shapeCast S1x384 (multiReduction (F := Ideal) (φ := .f32) .add [0] S384 (mulf h h) 0x00000000#32 reduces_S256x384_S384 (.inl rfl) rfl) shapeCasts_S384_S1x384⟩]
    concatenates_S1x384_S1x384_S2x384_d0

theorem statTileA_lift (f : Fin 256 → Fin 384 → EReal) : statTileA (arr2 f) = arr2 (stats f) := by
  unfold statTileA
  rw [mulf_arr, colsum_arr, colsum_arr, cast_row_arr, cast_row_arr, rows_arr]
  rfl

theorem partA_lift : partA (F := Ideal) (lift2 Q) (lift2 P) (arr2 X) (arr2 S) (arr2 Wa) (arr2 Wb) (arr2 B) = arr2 (stats (tileLay Q P X S Wa Wb B)) := by
  rw [← statTileA_lift, ← hA_lift]; rfl

theorem moreA_lift (T : Fin 2 → Fin 384 → EReal) : moreA (F := Ideal) (lift2 Q) (lift2 P) (arr2 X) (arr2 S) (arr2 Wa) (arr2 Wb) (arr2 B) (arr2 T)
    = arr2 (fun s o => T s o + stats (tileLay Q P X S Wa Wb B) s o) := by
  rw [← addf_arr, ← partA_lift]
  show addf (F := Ideal) (φ := .f32) (shapeCast S2x384 (arr2 T) shapeCasts_S2x384_S2x384) _ = _
  rw [shapeCast_self]; rfl

end Cert.Interp

end
-- ==== Proof.Value.Rows.lean ====
/- The rows of the 64 tiles of 256, and sums over them. -/
module

public import proofs.«01_k».proof.Proof.Value.Lift

@[expose] public section

noncomputable section

namespace Cert.Interp

/-- Row `r` of tile `t`. -/
def row (t : Fin 64) (r : Fin 256) : Fin 16384 := ⟨t.val * 256 + r.val, by omega⟩

/-- A sum over all rows is the sum over the tiles of the sums over their rows. -/
theorem sum_rows (f : Fin 16384 → EReal) : ∑ i, f i = ∑ t : Fin 64, ∑ r : Fin 256, f (row t r) := by
  rw [← Fintype.sum_prod_type' (fun t r => f (row t r))]
  refine (Fintype.sum_equiv (finProdFinEquiv (m := 64) (n := 256)) _ (fun i : Fin (64 * 256) => f i) fun x => ?_).symm
  refine congrArg f (Fin.ext ?_)
  show x.1.val * 256 + x.2.val = x.2.val + 256 * x.1.val
  omega

/-- The statistics of the tiles add up to those of the whole column. -/
theorem sum_stats {n : ℕ} (L : Fin 16384 → Fin n → EReal) (s : Fin 2) (o : Fin n) : ∑ t : Fin 64, stats (fun r o => L (row t r) o) s o = stats L s o := by
  unfold stats
  by_cases h : s = 0
  · simp only [if_pos h]; exact (sum_rows (fun i => L i o)).symm
  · simp only [if_neg h]; exact (sum_rows (fun i => L i o * L i o)).symm

end Cert.Interp

end
-- ==== Proof.Value.ArrayA.lean ====
/- What the first pass leaves in its two arrays, from the arrays it reads. -/
module

public import proofs.«01_k».proof.Proof.Value.TileA
public import proofs.«01_k».proof.Proof.Value.Rows
public import Idealize.ShloMosaic.Lib.Pipeline.ValueKit

@[expose] public section

set_option maxRecDepth 16384

noncomputable section

namespace Cert.Interp

open Idealize.ShloMosaic Idealize.ShloMosaic.TcCoe
open Cert.KernelIdeal Cert.KernelIdeal.Gen Cert.KernelIdeal.Hand

/-- The block of each window at each point. -/
theorem idxA (t : Fin grid0.N) : win0_0.index t = ![t.val, 0] ∧ win0_1.index t = ![0, 0] ∧ win0_2.index t = ![0, 0]
    ∧ win0_3.index t = ![t.val, 0] ∧ win0_4.index t = ![0, 0] ∧ win0_5.index t = ![0, 0] ∧ win0_6.index t = ![0, 0]
    ∧ win0_7.index t = ![t.val, 0] ∧ win0_8.index t = ![0, 0] := by
  revert t; decide +kernel

variable (V : (c : Dev nD) → (b : Ref sig .tc) → Buf (Elt Ideal) ((c : Thread nD τ).loc b)) (c : Dev nD)

theorem blkA_0 (t : Fin cfg0.N) (r : Fin 256) (k : Fin 8) : blkA V c 0 t (ValueIdx.ix2 r k) = V c main_v6 (ValueIdx.ix2 (row t r) k) := by
  unfold blkA; blk_ext [(idxA t).1] <;> rfl

theorem blkA_3 (t : Fin cfg0.N) (r : Fin 256) (k : Fin 128) : blkA V c 3 t (ValueIdx.ix2 r k) = V c main_arg3 (ValueIdx.ix2 (row t r) k) := by
  unfold blkA; blk_ext [(idxA t).2.2.2.1] <;> rfl

theorem blkA_1 (t : Fin cfg0.N) (x) : blkA V c 1 t x = V c main_v3 x := by
  unfold blkA; blk_ext [(idxA t).2.1]

theorem blkA_2 (t : Fin cfg0.N) (x) : blkA V c 2 t x = V c main_arg0 x := by
  unfold blkA; blk_ext [(idxA t).2.2.1]

theorem blkA_4 (t : Fin cfg0.N) (x) : blkA V c 4 t x = V c main_v7 x := by
  unfold blkA; blk_ext [(idxA t).2.2.2.2.1]

theorem blkA_5 (t : Fin cfg0.N) (x) : blkA V c 5 t x = V c main_v8 x := by
  unfold blkA; blk_ext [(idxA t).2.2.2.2.2.1]

theorem blkA_6 (t : Fin cfg0.N) (x) : blkA V c 6 t x = V c main_v9 x := by
  unfold blkA; blk_ext [(idxA t).2.2.2.2.2.2.1]

theorem outA_0 (t : Fin cfg0.N) (y : (win0_7.xblock (grid0.coords t)).Idx) : (win0_7.blk t).view.emb y 0 = row t (y 0) := by
  refine Fin.ext ?_
  blk_simp [(idxA t).2.2.2.2.2.2.2.1]
  rfl

theorem outA_1 (t : Fin cfg0.N) (y : (win0_7.xblock (grid0.coords t)).Idx) : (win0_7.blk t).view.emb y 1 = y 1 := by
  refine Fin.ext ?_
  blk_simp [(idxA t).2.2.2.2.2.2.2.1]

/-- The last point. -/
def lastA : Fin cfg0.N := ⟨63, by decide⟩

/-- The arrays the first pass reads hold these numbers. -/
structure EntryA (Q : Fin 16384 → Fin 8 → ℝ) (P : Fin 8 → Fin 4096 → ℝ) (X : Fin 4096 → Fin 256 → EReal) (S : Fin 16384 → Fin 128 → EReal)
    (Wa : Fin 256 → Fin 384 → EReal) (Wb : Fin 128 → Fin 384 → EReal) (B : Fin 1 → Fin 384 → EReal) : Prop where
  q : V c main_v6 = lift2 Q
  p : V c main_v3 = lift2 P
  x : V c main_arg0 = arr2 X
  s : V c main_arg3 = arr2 S
  wa : V c main_v7 = arr2 Wa
  wb : V c main_v8 = arr2 Wb
  b : V c main_v9 = arr2 B

variable {V c} {Q : Fin 16384 → Fin 8 → ℝ} {P : Fin 8 → Fin 4096 → ℝ} {X : Fin 4096 → Fin 256 → EReal} {S : Fin 16384 → Fin 128 → EReal}
    {Wa : Fin 256 → Fin 384 → EReal} {Wb : Fin 128 → Fin 384 → EReal} {B : Fin 1 → Fin 384 → EReal} (E : EntryA V c Q P X S Wa Wb B)

include E

theorem EntryA.b0 (t : Fin cfg0.N) : blkA V c 0 t = lift2 (fun r k => Q (row t r) k) := ext2 fun r k => by rw [blkA_0, E.q]; rfl
theorem EntryA.b1 (t : Fin cfg0.N) : blkA V c 1 t = lift2 P := funext fun x => by rw [blkA_1, E.p]
theorem EntryA.b2 (t : Fin cfg0.N) : blkA V c 2 t = arr2 X := funext fun x => by rw [blkA_2, E.x]
theorem EntryA.b3 (t : Fin cfg0.N) : blkA V c 3 t = arr2 (fun r k => S (row t r) k) := ext2 fun r k => by rw [blkA_3, E.s]; rfl
theorem EntryA.b4 (t : Fin cfg0.N) : blkA V c 4 t = arr2 Wa := funext fun x => by rw [blkA_4, E.wa]
theorem EntryA.b5 (t : Fin cfg0.N) : blkA V c 5 t = arr2 Wb := funext fun x => by rw [blkA_5, E.wb]
theorem EntryA.b6 (t : Fin cfg0.N) : blkA V c 6 t = arr2 B := funext fun x => by rw [blkA_6, E.b]

/-- The block of results stored at a point is the layer at the tile's rows. -/
theorem EntryA.h (t : Fin cfg0.N) : (datA V c).after 7 t = arr2 (fun r o => tileLay Q P X S Wa Wb B (row t r) o) := by
  rw [afterA_7, E.b0, E.b1, E.b2, E.b3, E.b4, E.b5, E.b6, hA_lift]; rfl

/-- The statistics after a point are the sum of those of the tiles so far. -/
theorem EntryA.stat (n : ℕ) : ∀ h : n < cfg0.N, statA V c n h
    = arr2 (fun s o => ∑ t : Fin (n + 1), stats (fun r o => tileLay Q P X S Wa Wb B (row ⟨t.val, Nat.lt_of_lt_of_le t.isLt h⟩ r) o) s o) := by
  induction n with
  | zero =>
    intro h
    rw [statA, E.b0, E.b1, E.b2, E.b3, E.b4, E.b5, E.b6, partA_lift]
    congr 1; funext s o
    rw [Fin.sum_univ_one]; rfl
  | succ n ih =>
    intro h
    rw [statA, ih, E.b0, E.b1, E.b2, E.b3, E.b4, E.b5, E.b6, moreA_lift]
    congr 1; funext s o
    exact (Fin.sum_univ_castSucc (fun t : Fin (n + 2) => stats (fun r o => tileLay Q P X S Wa Wb B (row ⟨t.val, Nat.lt_of_lt_of_le t.isLt h⟩ r) o) s o)).symm

/-- The first array after the pass: the layer at every row. -/
theorem EntryA.arr7 : (datA V c).arrAt 7 cfg0.N = arr2 (tileLay Q P X S Wa Wb B) := by
  refine (datA V c).arrAt_eq_of_covers 7 _ (by decide +kernel) fun t hf y => ?_
  rw [E.h]
  blk_simp
  exact congrArg₂ (fun i o => tileLay Q P X S Wa Wb B i o) (outA_0 t y).symm (outA_1 t y).symm

/-- The second array after the pass: the statistics of the layer's columns. -/
theorem EntryA.arr8 : (datA V c).arrAt 8 cfg0.N = arr2 (stats (tileLay Q P X S Wa Wb B)) := by
  refine (datA V c).arrAt_eq_of_after_last 8 lastA (by decide +kernel) _ fun j => ?_
  blk_simp
  rw [afterA_8, E.stat]
  exact sum_stats (tileLay Q P X S Wa Wb B) (j 0) (j 1)

end Cert.Interp
end
-- ==== Proof.Value.TileB.lean ====
/- What a point of the second and of the third pass stores, over the reals. -/
module

public import proofs.«01_k».proof.Proof.Value.Lift
public import proofs.«01_k».proof.Proof.KernelIdeal.PassB
public import proofs.«01_k».proof.Proof.KernelIdeal.PassC

@[expose] public section

set_option maxRecDepth 16384

noncomputable section

namespace Cert.Interp

open Idealize.ShloMosaic Idealize.ShloMosaic.ValueIdx
open Cert.KernelIdeal Cert.KernelIdeal.Gen Cert.KernelIdeal.Hand

/-- A row of the statistics, loaded. -/
theorem ld_row {b : ℕ} (k : Fin 2) (f : Fin 2 → Fin b → EReal) (inb : ∀ a : Fin 2, (![k.val, 0] : Fin 2 → ℕ) a + (![1, b] : Fin 2 → ℕ) a ≤ (![2, b] : Fin 2 → ℕ) a) :
    View.ld (S := ⟨2, ![2, b]⟩) (Val := Elt Ideal) (e' := .f32) (arr2 f) (Rect.unit (s := ⟨2, ![2, b]⟩) ![k.val, 0] ![1, b] inb) = arr2 (fun _ o => f k o) := by
  refine (View.ld_unit _ _ _ _).trans (ext2 fun u o => ?_)
  exact slice2_axis0_apply k.val (arr2 f) _ u o k (by omega)

variable {n : ℕ} (H : Fin 16384 → Fin n → EReal)

theorem stats_0 (o : Fin n) : stats H 0 o = ∑ i, H i o := if_pos rfl

theorem stats_1 (o : Fin n) : stats H 1 o = ∑ i, H i o * H i o := if_neg (by decide)

/-- The row of means. -/
def meanRow (v : FVec Ideal ⟨2, ![1, n]⟩ .f32) : FVec Ideal ⟨2, ![1, n]⟩ .f32 := mulf v (broadcast ⟨2, ![1, n]⟩ (Scalar.ofBits .f32 0x38800000#32))

/-- The row of scales. -/
def scaleRow (v0 v4 g : FVec Ideal ⟨2, ![1, n]⟩ .f32) : FVec Ideal ⟨2, ![1, n]⟩ .f32 :=
  divf g (sqrt (addf (subf (mulf v4 (broadcast ⟨2, ![1, n]⟩ (Scalar.ofBits .f32 0x38800000#32))) (mulf (meanRow v0) (meanRow v0)))
    (broadcast ⟨2, ![1, n]⟩ (Scalar.ofBits .f32 0x3727C5AC#32))))

theorem meanRow_arr : meanRow (arr2 (fun (_ : Fin 1) o => stats H 0 o)) = arr2 (fun _ o => shareMean (fun i => H i o)) := by
  unfold meanRow
  rw [broadcast_arr ofBits_share, mulf_arr]
  exact congrArg arr2 (funext fun _ => funext fun o => congrArg (fun t : EReal => t * ((1 / 16384 : ℝ) : EReal)) (stats_0 H o))

theorem scaleRow_arr (g : Fin 1 → Fin n → ℝ) : scaleRow (arr2 (fun (_ : Fin 1) o => stats H 0 o)) (arr2 (fun (_ : Fin 1) o => stats H 1 o)) (lift2 g)
    = arr2 (fun _ o => foldScale (fun i => H i o) (g 0 o)) := by
  unfold scaleRow
  rw [meanRow_arr, broadcast_arr ofBits_share, mulf_arr, mulf_arr, subf_arr, broadcast_arr ofBits_eps, addf_arr, sqrt_arr, lift2_arr, divf_arr]
  refine congrArg arr2 (funext fun u => funext fun o => ?_)
  have hu : u = 0 := Subsingleton.elim _ _
  rw [hu, stats_1, foldScale]

/-- The second layer of some rows. -/
def tileLay2 {n : ℕ} (T : Fin n → Fin 384 → EReal) (H : Fin 16384 → Fin 384 → EReal) (g : Fin 1 → Fin 384 → ℝ) (be : Fin 1 → Fin 384 → EReal)
    (W : Fin 384 → Fin 256 → EReal) (B : Fin 1 → Fin 256 → EReal) (r : Fin n) (o : Fin 256) : EReal :=
  max ((∑ c, (T r c * foldScale (fun i => H i c) (g 0 c) + (be 0 c - shareMean (fun i => H i c) * foldScale (fun i => H i c) (g 0 c))) * W c o) + B 0 o) 0

variable (T : Fin 256 → Fin 384 → EReal) (H : Fin 16384 → Fin 384 → EReal) (g : Fin 1 → Fin 384 → ℝ) (be : Fin 1 → Fin 384 → EReal)
  (W : Fin 384 → Fin 256 → EReal) (B : Fin 1 → Fin 256 → EReal)

theorem hB_tile (x0 : Vec Ideal S256x384 .f32) (x1 : Vec Ideal S2x384 .f32) (x2 : Vec Ideal S1x384 .f32) (x3 : Vec Ideal S1x384 .f32) (x4 : Vec Ideal S384x256 .f32)
    (x5 : Vec Ideal S1x256 .f32) (v0 v4 : Vec Ideal S1x384 .f32)
    (h0 : View.ld x1 (Rect.unit (s := S2x384) ![0, 0] S1x384.size inb_S2x384_S1x384_0_0) = v0)
    (h4 : View.ld x1 (Rect.unit (s := S2x384) ![1, 0] S1x384.size inb_S2x384_S1x384_1_0) = v4) :
    hB (F := Ideal) x0 x1 x2 x3 x4 x5 = maximumf (addf (matmul (F := Ideal) (φ₁ := .f32) (φ₂ := .f32) dot_S256x384_S384x256_S256x256_1_0_0_1_n_n none
      (addf (mulf x0 (broadcastTo S256x384 (scaleRow v0 v4 x2) broadcasts_S1x384_S256x384))
        (broadcastTo S256x384 (subf x3 (mulf (meanRow v0) (scaleRow v0 v4 x2))) broadcasts_S1x384_S256x384)) x4 (constant S256x256 .f32 0x00000000#32))
      (broadcastTo S256x256 x5 broadcasts_S1x256_S256x256)) (broadcast S256x256 (Scalar.ofBits .f32 0x00000000#32)) := by
  unfold hB k1_pay3
  dsimp only
  rw [h0, h4]
  simp only [shapeCast_self]
  rfl

theorem hB_lift : hB (F := Ideal) (arr2 T) (arr2 (stats H)) (lift2 g) (arr2 be) (arr2 W) (arr2 B) = arr2 (tileLay2 T H g be W B) := by
  rw [hB_tile _ _ _ _ _ _ _ _ (ld_row 0 (stats H) _) (ld_row 1 (stats H) _), meanRow_arr, scaleRow_arr, mulf_arr, subf_arr, row_arr, row_arr, mulf_arr,
    addf_arr, matmul_arr dot_S256x384_S384x256_S256x256_1_0_0_1_n_n rfl, row_arr, addf_arr, broadcast_arr Ideal.ofBits_zero_f32, maximumf_arr]
  rfl

/-- The statistics of a block, as its column sums stacked. -/
def statTileB (h : FVec Ideal S256x256 .f32) : FVec Ideal S2x256 .f32 :=
  concatenate S2x256 0 [⟨S1x256, shapeCast S1x256 (multiReduction (F := Ideal) (φ := .f32) .add [0] S256 h 0x00000000#32 reduces_S256x256_S256 (.inl rfl) rfl) shapeCasts_S256_S1x256⟩,
    ⟨S1x256, shapeCast S1x256 (multiReduction (F := Ideal) (φ := .f32) .add [0] S256 (mulf h h) 0x00000000#32 reduces_S256x256_S256 (.inl rfl) rfl) shapeCasts_S256_S1x256⟩]
    concatenates_S1x256_S1x256_S2x256_d0

theorem statTileB_lift (f : Fin 256 → Fin 256 → EReal) : statTileB (arr2 f) = arr2 (stats f) := by
  unfold statTileB
  rw [mulf_arr, colsum_arr, colsum_arr, cast_row_arr, cast_row_arr, rows_arr]
  rfl

theorem partB_lift : partB (F := Ideal) (arr2 T) (arr2 (stats H)) (lift2 g) (arr2 be) (arr2 W) (arr2 B) = arr2 (stats (tileLay2 T H g be W B)) := by
  rw [← statTileB_lift, ← hB_lift]; rfl

theorem moreB_lift (U : Fin 2 → Fin 256 → EReal) : moreB (F := Ideal) (arr2 T) (arr2 (stats H)) (lift2 g) (arr2 be) (arr2 W) (arr2 B) (arr2 U)
    = arr2 (fun s o => U s o + stats (tileLay2 T H g be W B) s o) := by
  rw [← addf_arr, ← partB_lift]
  show addf (F := Ideal) (φ := .f32) (shapeCast S2x256 (arr2 U) shapeCasts_S2x256_S2x256) _ = _
  rw [shapeCast_self]; rfl

/-- The last block: the scaled entries and the offset. -/
theorem hC_arr (T : Fin 256 → Fin 256 → EReal) (H : Fin 16384 → Fin 256 → EReal) (g : Fin 1 → Fin 256 → ℝ) (be : Fin 1 → Fin 256 → EReal) :
    hC (F := Ideal) (arr2 T) (arr2 (stats H)) (lift2 g) (arr2 be) = arr2 (fun r o => T r o * foldScale (fun i => H i o) (g 0 o)
      + (be 0 o - shareMean (fun i => H i o) * foldScale (fun i => H i o) (g 0 o))) := by
  have e : hC (F := Ideal) (arr2 T) (arr2 (stats H)) (lift2 g) (arr2 be)
      = addf (mulf (arr2 T) (broadcastTo S256x256 (scaleRow (arr2 (fun (_ : Fin 1) o => stats H 0 o)) (arr2 (fun (_ : Fin 1) o => stats H 1 o)) (lift2 g)) broadcasts_S1x256_S256x256))
        (broadcastTo S256x256 (subf (arr2 be) (mulf (meanRow (arr2 (fun (_ : Fin 1) o => stats H 0 o))) (scaleRow (arr2 (fun (_ : Fin 1) o => stats H 0 o)) (arr2 (fun (_ : Fin 1) o => stats H 1 o)) (lift2 g)))) broadcasts_S1x256_S256x256) := by
    rw [← ld_row 0 (stats H) inb_S2x256_S1x256_0_0, ← ld_row 1 (stats H) inb_S2x256_S1x256_1_0]
    unfold hC k2_pay1
    dsimp only
    simp only [shapeCast_self]
    rfl
  rw [e, meanRow_arr, scaleRow_arr, mulf_arr, row_arr, mulf_arr, subf_arr, row_arr, addf_arr]

end Cert.Interp

end
-- ==== Proof.Value.ArrayB.lean ====
/- What the second pass leaves in its two arrays, from the arrays it reads. -/
module

public import proofs.«01_k».proof.Proof.Value.TileB
public import proofs.«01_k».proof.Proof.Value.Rows
public import Idealize.ShloMosaic.Lib.Pipeline.ValueKit

@[expose] public section

set_option maxRecDepth 16384

noncomputable section

namespace Cert.Interp

open Idealize.ShloMosaic Idealize.ShloMosaic.TcCoe
open Cert.KernelIdeal Cert.KernelIdeal.Gen Cert.KernelIdeal.Hand

/-- The block of each window at each point. -/
theorem idxB (t : Fin grid1.N) : win1_0.index t = ![t.val, 0] ∧ win1_1.index t = ![0, 0] ∧ win1_2.index t = ![0, 0]
    ∧ win1_3.index t = ![0, 0] ∧ win1_4.index t = ![0, 0] ∧ win1_5.index t = ![0, 0] ∧ win1_6.index t = ![t.val, 0]
    ∧ win1_7.index t = ![0, 0] := by
  revert t; decide +kernel

variable (V : (c : Dev nD) → (b : Ref sig .tc) → Buf (Elt Ideal) ((c : Thread nD τ).loc b)) (c : Dev nD)

theorem blkB_0 (t : Fin cfg1.N) (r : Fin 256) (k : Fin 384) : blkB V c 0 t (ValueIdx.ix2 r k) = V c main_v10_0 (ValueIdx.ix2 (row t r) k) := by
  unfold blkB; blk_ext [(idxB t).1] <;> rfl

theorem blkB_1 (t : Fin cfg1.N) (x) : blkB V c 1 t x = V c main_v10_1 x := by
  unfold blkB; blk_ext [(idxB t).2.1]

theorem blkB_2 (t : Fin cfg1.N) (x) : blkB V c 2 t x = V c main_v11 x := by
  unfold blkB; blk_ext [(idxB t).2.2.1]

theorem blkB_3 (t : Fin cfg1.N) (x) : blkB V c 3 t x = V c main_v12 x := by
  unfold blkB; blk_ext [(idxB t).2.2.2.1]

theorem blkB_4 (t : Fin cfg1.N) (x) : blkB V c 4 t x = V c main_arg10 x := by
  unfold blkB; blk_ext [(idxB t).2.2.2.2.1]

theorem blkB_5 (t : Fin cfg1.N) (x) : blkB V c 5 t x = V c main_v13 x := by
  unfold blkB; blk_ext [(idxB t).2.2.2.2.2.1]

theorem outB_0 (t : Fin cfg1.N) (y : (win1_6.xblock (grid1.coords t)).Idx) : (win1_6.blk t).view.emb y 0 = row t (y 0) := by
  refine Fin.ext ?_
  blk_simp [(idxB t).2.2.2.2.2.2.1]
  rfl

theorem outB_1 (t : Fin cfg1.N) (y : (win1_6.xblock (grid1.coords t)).Idx) : (win1_6.blk t).view.emb y 1 = y 1 := by
  refine Fin.ext ?_
  blk_simp [(idxB t).2.2.2.2.2.2.1]

/-- The last point. -/
def lastB : Fin cfg1.N := ⟨63, by decide⟩

/-- The arrays the second pass reads hold the first layer, its statistics and these numbers. -/
structure EntryB (H : Fin 16384 → Fin 384 → EReal) (g : Fin 1 → Fin 384 → ℝ) (be : Fin 1 → Fin 384 → EReal) (W : Fin 384 → Fin 256 → EReal)
    (B : Fin 1 → Fin 256 → EReal) : Prop where
  h : V c main_v10_0 = arr2 H
  s : V c main_v10_1 = arr2 (stats H)
  g : V c main_v11 = lift2 g
  be : V c main_v12 = arr2 be
  w : V c main_arg10 = arr2 W
  b : V c main_v13 = arr2 B

variable {V c} {H : Fin 16384 → Fin 384 → EReal} {g : Fin 1 → Fin 384 → ℝ} {be : Fin 1 → Fin 384 → EReal} {W : Fin 384 → Fin 256 → EReal}
    {B : Fin 1 → Fin 256 → EReal}
    (E : EntryB V c H g be W B)

include E

theorem EntryB.b0 (t : Fin cfg1.N) : blkB V c 0 t = arr2 (fun r k => H (row t r) k) := ext2 fun r k => by rw [blkB_0, E.h]; rfl
theorem EntryB.b1 (t : Fin cfg1.N) : blkB V c 1 t = arr2 (stats H) := funext fun x => by rw [blkB_1, E.s]
theorem EntryB.b2 (t : Fin cfg1.N) : blkB V c 2 t = lift2 g := funext fun x => by rw [blkB_2, E.g]
theorem EntryB.b3 (t : Fin cfg1.N) : blkB V c 3 t = arr2 be := funext fun x => by rw [blkB_3, E.be]
theorem EntryB.b4 (t : Fin cfg1.N) : blkB V c 4 t = arr2 W := funext fun x => by rw [blkB_4, E.w]
theorem EntryB.b5 (t : Fin cfg1.N) : blkB V c 5 t = arr2 B := funext fun x => by rw [blkB_5, E.b]

/-- The block of results stored at a point is the second layer at the tile's rows. -/
theorem EntryB.after (t : Fin cfg1.N) : (datB V c).after 6 t = arr2 (fun r o => tileLay2 H H g be W B (row t r) o) := by
  rw [afterB_6, E.b0, E.b1, E.b2, E.b3, E.b4, E.b5, hB_lift]; rfl

/-- The statistics after a point are the sum of those of the tiles so far. -/
theorem EntryB.stat (n : ℕ) : ∀ h : n < cfg1.N, statB V c n h
    = arr2 (fun s o => ∑ t : Fin (n + 1), stats (fun r o => tileLay2 H H g be W B (row ⟨t.val, Nat.lt_of_lt_of_le t.isLt h⟩ r) o) s o) := by
  induction n with
  | zero =>
    intro h
    rw [statB, E.b0, E.b1, E.b2, E.b3, E.b4, E.b5, partB_lift]
    congr 1; funext s o
    rw [Fin.sum_univ_one]; rfl
  | succ n ih =>
    intro h
    rw [statB, ih, E.b0, E.b1, E.b2, E.b3, E.b4, E.b5, moreB_lift]
    congr 1; funext s o
    exact (Fin.sum_univ_castSucc (fun t : Fin (n + 2) => stats (fun r o => tileLay2 H H g be W B (row ⟨t.val, Nat.lt_of_lt_of_le t.isLt h⟩ r) o) s o)).symm

/-- The first array after the pass: the second layer at every row. -/
theorem EntryB.arr6 : (datB V c).arrAt 6 cfg1.N = arr2 (tileLay2 H H g be W B) := by
  refine (datB V c).arrAt_eq_of_covers 6 _ (by decide +kernel) fun t hf y => ?_
  rw [E.after]
  blk_simp
  exact congrArg₂ (fun i o => tileLay2 H H g be W B i o) (outB_0 t y).symm (outB_1 t y).symm

/-- The second array after the pass: the statistics of the second layer's columns. -/
theorem EntryB.arr7 : (datB V c).arrAt 7 cfg1.N = arr2 (stats (tileLay2 H H g be W B)) := by
  refine (datB V c).arrAt_eq_of_after_last 7 lastB (by decide +kernel) _ fun j => ?_
  blk_simp
  rw [afterB_7, E.stat]
  exact sum_stats (tileLay2 H H g be W B) (j 0) (j 1)

end Cert.Interp
end
-- ==== Proof.Value.ArrayC.lean ====
/- What the third pass leaves in its array, from the arrays it reads. -/
module

public import proofs.«01_k».proof.Proof.Value.TileB
public import proofs.«01_k».proof.Proof.Value.Rows
public import Idealize.ShloMosaic.Lib.Pipeline.ValueKit

@[expose] public section

set_option maxRecDepth 16384

noncomputable section

namespace Cert.Interp

open Idealize.ShloMosaic Idealize.ShloMosaic.TcCoe
open Cert.KernelIdeal Cert.KernelIdeal.Gen Cert.KernelIdeal.Hand

/-- The block of each window at each point. -/
theorem idxC (t : Fin grid2.N) : win2_0.index t = ![t.val, 0] ∧ win2_1.index t = ![0, 0] ∧ win2_2.index t = ![0, 0]
    ∧ win2_3.index t = ![0, 0] ∧ win2_4.index t = ![t.val, 0] := by
  revert t; decide +kernel

variable (V : (c : Dev nD) → (b : Ref sig .tc) → Buf (Elt Ideal) ((c : Thread nD τ).loc b)) (c : Dev nD)

theorem blkC_0 (t : Fin cfg2.N) (r : Fin 256) (k : Fin 256) : blkC V c 0 t (ValueIdx.ix2 r k) = V c main_v14_0 (ValueIdx.ix2 (row t r) k) := by
  unfold blkC; blk_ext [(idxC t).1] <;> rfl

theorem blkC_1 (t : Fin cfg2.N) (x) : blkC V c 1 t x = V c main_v14_1 x := by
  unfold blkC; blk_ext [(idxC t).2.1]

theorem blkC_2 (t : Fin cfg2.N) (x) : blkC V c 2 t x = V c main_v15 x := by
  unfold blkC; blk_ext [(idxC t).2.2.1]

theorem blkC_3 (t : Fin cfg2.N) (x) : blkC V c 3 t x = V c main_v16 x := by
  unfold blkC; blk_ext [(idxC t).2.2.2.1]

theorem outC_0 (t : Fin cfg2.N) (y : (win2_4.xblock (grid2.coords t)).Idx) : (win2_4.blk t).view.emb y 0 = row t (y 0) := by
  refine Fin.ext ?_
  blk_simp [(idxC t).2.2.2.2]
  rfl

theorem outC_1 (t : Fin cfg2.N) (y : (win2_4.xblock (grid2.coords t)).Idx) : (win2_4.blk t).view.emb y 1 = y 1 := by
  refine Fin.ext ?_
  blk_simp [(idxC t).2.2.2.2]

/-- The arrays the third pass reads hold the second layer, its statistics and these numbers; the layer is at least nought. -/
structure EntryC (H : Fin 16384 → Fin 256 → EReal) (g : Fin 1 → Fin 256 → ℝ) (be : Fin 1 → Fin 256 → EReal) : Prop where
  h : V c main_v14_0 = arr2 H
  s : V c main_v14_1 = arr2 (stats H)
  g : V c main_v15 = lift2 g
  be : V c main_v16 = arr2 be
  nonneg : ∀ i o, 0 ≤ H i o

variable {V c} {H : Fin 16384 → Fin 256 → EReal} {g : Fin 1 → Fin 256 → ℝ} {be : Fin 1 → Fin 256 → EReal} (E : EntryC V c H g be)

include E

theorem EntryC.b0 (t : Fin cfg2.N) : blkC V c 0 t = arr2 (fun r k => H (row t r) k) := ext2 fun r k => by rw [blkC_0, E.h]; rfl
theorem EntryC.b1 (t : Fin cfg2.N) : blkC V c 1 t = arr2 (stats H) := funext fun x => by rw [blkC_1, E.s]
theorem EntryC.b2 (t : Fin cfg2.N) : blkC V c 2 t = lift2 g := funext fun x => by rw [blkC_2, E.g]
theorem EntryC.b3 (t : Fin cfg2.N) : blkC V c 3 t = arr2 be := funext fun x => by rw [blkC_3, E.be]

/-- The block of results stored at a point is the normed layer at the tile's rows. -/
theorem EntryC.after (t : Fin cfg2.N) :
    (datC V c).after 4 t = arr2 (fun r o => colNorm (fun i => H i o) (g 0 o) (row t r) + be 0 o) := by
  rw [afterC_4, E.b0, E.b1, E.b2, E.b3, hC_arr]
  exact ext2 fun r o => fold_colNorm (fun i => H i o) (fun i => E.nonneg i o) (g 0 o) (be 0 o) (row t r)

/-- The array after the pass: the normed layer at every row. -/
theorem EntryC.arr4 : (datC V c).arrAt 4 cfg2.N = arr2 (fun i o => colNorm (fun i => H i o) (g 0 o) i + be 0 o) := by
  refine (datC V c).arrAt_eq_of_covers 4 _ (by decide +kernel) fun t hf y => ?_
  rw [E.after]
  blk_simp
  exact congrArg₂ (fun i o => colNorm (fun i => H i o) (g 0 o) i + be 0 o) (outC_0 t y).symm (outC_1 t y).symm

end Cert.Interp
end
-- ==== Proof.Value.Corner.lean ====
/- The padded arrays: a zero array with another written in its corner. -/
module

public import proofs.«01_k».proof.Proof.Gen.KernelIdeal.Launch
public import proofs.«01_k».proof.Proof.Value.Lift
public import Idealize.ShloMosaic.Lib.Routing.OpsSet
public import Idealize.ShloMosaic.Lib.Routing.OpsPair

@[expose] public section

noncomputable section

namespace Cert.Interp

open Idealize.ShloMosaic Idealize.ShloMosaic.Routing
open Cert.KernelIdeal Cert.KernelIdeal.Gen
open ValueIdx (ix1 ix2)

theorem start_cols (j : S3x4096.Idx) (idx : IVec S1 32) (h : ∀ i, idx i = 0#32) (a : Fin 2) : scatter_S8x4096_S1_S3x4096_01_n_0_0.start j idx a = 0 := by
  unfold ScatterDims.start
  split
  · rw [h]; rfl
  · rfl

theorem window_cols (j : S3x4096.Idx) (a : Fin 2) : scatter_S8x4096_S1_S3x4096_01_n_0_0.window j a = (j a).val := by
  fin_cases a <;> rfl

/-- The place columns' rows 0 to 2 are the written ones, and the others zero. -/
theorem corner_cols (P : Fin 3 → Fin 4096 → ℝ) (idx : IVec S1 32) (h : ∀ i, idx i = 0#32) (x : FVec Ideal S8x4096 .f32) (hx : ∀ i, x i = ((0 : ℝ) : EReal)) :
    Host.scatter scatter_S8x4096_S1_S3x4096_01_n_0_0 (fun _ b => b) x idx (lift2 P : FVec Ideal S3x4096 .f32)
      = lift2 (fun k j => if h : k.val < 3 then P ⟨k.val, h⟩ j else 0) := by
  have lands : ∀ (j : S3x4096.Idx) (ι : S8x4096.Idx), scatter_S8x4096_S1_S3x4096_01_n_0_0.resultIdx? j idx = some ι ↔ (j 0).val = (ι 0).val ∧ (j 1).val = (ι 1).val := by
    intro j ι
    rw [resultIdx?_eq_some, Fin.forall_fin_two]
    simp only [start_cols _ _ h, window_cols, Int.zero_add, Nat.cast_inj]
  refine ext2 fun k j => ?_
  by_cases hk : k.val < 3
  · refine (scatter_set_hit _ _ _ _ _ (lift2 P (ix2 (⟨k.val, hk⟩ : Fin 3) j)) (fun y hy => ?_) (ix2 ⟨k.val, hk⟩ j) ((lands _ _).2 ⟨rfl, rfl⟩)).trans ?_
    · obtain ⟨h0, h1⟩ := (lands _ _).1 hy
      refine congrArg (lift2 P) ((ValueIdx.eq_ix2 y).trans ?_)
      exact congrArg₂ ix2 (Fin.ext h0) (Fin.ext h1)
    · rw [lift2_ix2, lift2_ix2, dif_pos hk]
  · refine (scatter_set_miss _ _ _ _ _ fun y hy => hk ?_).trans ?_
    · have h0 := ((lands _ _).1 hy).1
      exact lt_of_eq_of_lt h0.symm (y 0).isLt
    · rw [hx, lift2_ix2, dif_neg hk]

theorem start_rows (j : S16384x3.Idx) (idx : IVec S1 32) (h : ∀ i, idx i = 0#32) (a : Fin 2) : scatter_S16384x8_S1_S16384x3_01_n_1_0.start j idx a = 0 := by
  unfold ScatterDims.start
  split
  · rw [h]; rfl
  · rfl

theorem window_rows (j : S16384x3.Idx) (a : Fin 2) : scatter_S16384x8_S1_S16384x3_01_n_1_0.window j a = (j a).val := by
  fin_cases a <;> rfl

/-- The query rows' columns 0 to 2 are the written ones, and the others zero. -/
theorem corner_rows (Q : Fin 16384 → Fin 3 → ℝ) (idx : IVec S1 32) (h : ∀ i, idx i = 0#32) (x : FVec Ideal S16384x8 .f32) (hx : ∀ i, x i = ((0 : ℝ) : EReal)) :
    Host.scatter scatter_S16384x8_S1_S16384x3_01_n_1_0 (fun _ b => b) x idx (lift2 Q : FVec Ideal S16384x3 .f32)
      = lift2 (fun i k => if h : k.val < 3 then Q i ⟨k.val, h⟩ else 0) := by
  have lands : ∀ (j : S16384x3.Idx) (ι : S16384x8.Idx), scatter_S16384x8_S1_S16384x3_01_n_1_0.resultIdx? j idx = some ι ↔ (j 0).val = (ι 0).val ∧ (j 1).val = (ι 1).val := by
    intro j ι
    rw [resultIdx?_eq_some, Fin.forall_fin_two]
    simp only [start_rows _ _ h, window_rows, Int.zero_add, Nat.cast_inj]
  refine ext2 fun i k => ?_
  by_cases hk : k.val < 3
  · refine (scatter_set_hit _ _ _ _ _ (lift2 Q (ix2 i (⟨k.val, hk⟩ : Fin 3))) (fun y hy => ?_) (ix2 i ⟨k.val, hk⟩) ((lands _ _).2 ⟨rfl, rfl⟩)).trans ?_
    · obtain ⟨h0, h1⟩ := (lands _ _).1 hy
      refine congrArg (lift2 Q) ((ValueIdx.eq_ix2 y).trans ?_)
      exact congrArg₂ ix2 (Fin.ext h0) (Fin.ext h1)
    · rw [lift2_ix2, lift2_ix2, dif_pos hk]
  · refine (scatter_set_miss _ _ _ _ _ fun y hy => hk ?_).trans ?_
    · have h0 := ((lands _ _).1 hy).2
      exact lt_of_eq_of_lt h0.symm (y 1).isLt
    · rw [hx, lift2_ix2, dif_neg hk]

/-- A sum of eight products with zeros beyond the third is the sum of three. -/
theorem sum_padded (f : Fin 3 → ℝ) (g : Fin 8 → ℝ) (h : ∀ k : Fin 8, g k = if h : k.val < 3 then f ⟨k.val, h⟩ else 0) : ∑ k, g k = ∑ k, f k := by
  simp only [h]
  simp [Fin.sum_univ_succ]

end Cert.Interp
end
-- ==== Proof.Value.Spec.lean ====
/- What the program computes, as real functions of the arrays it is given. -/
module

public import proofs.«01_k».proof.Proof.Value.Real

@[expose] public section

noncomputable section

namespace Cert.Interp

/-- The contents of the float arguments: the positions and the two scales real, the others any. -/
structure Data where
  x : Fin 4096 → Fin 256 → EReal
  p : Fin 4096 → Fin 3 → ℝ
  s : Fin 16384 → Fin 128 → EReal
  q : Fin 16384 → Fin 3 → ℝ
  w1 : Fin 384 → Fin 384 → EReal
  b1 : Fin 384 → EReal
  g1 : Fin 384 → ℝ
  be1 : Fin 384 → EReal
  w2 : Fin 384 → Fin 256 → EReal
  b2 : Fin 256 → EReal
  g2 : Fin 256 → ℝ
  be2 : Fin 256 → EReal

variable (D : Data)

/-- The squared distance of query `i` to place `j`. -/
def Data.dist (i : Fin 16384) (j : Fin 4096) : ℝ :=
  ((∑ k : Fin 3, D.q i k * D.q i k) + ∑ k : Fin 3, D.p j k * D.p j k) - 2 * ∑ k : Fin 3, D.q i k * D.p j k

/-- The interpolated features. -/
def Data.feat (i : Fin 16384) (c : Fin 256) : EReal := interp (D.dist i) (fun j => D.x j c)

/-- The first layer. -/
def Data.lay1 (i : Fin 16384) (o : Fin 384) : EReal :=
  max ((∑ c : Fin 256, D.feat i c * D.w1 ⟨c.val, by omega⟩ o) + (∑ c : Fin 128, D.s i c * D.w1 ⟨256 + c.val, by omega⟩ o) + D.b1 o) 0

/-- The second layer. -/
def Data.lay2 (i : Fin 16384) (o : Fin 256) : EReal :=
  max ((∑ c : Fin 384, (colNorm (fun i => D.lay1 i c) (D.g1 c) i + D.be1 c) * D.w2 c o) + D.b2 o) 0

/-- The result. -/
def Data.out (i : Fin 16384) (o : Fin 256) : EReal := colNorm (fun i => D.lay2 i o) (D.g2 o) i + D.be2 o

theorem Data.lay1_nonneg (i : Fin 16384) (o : Fin 384) : 0 ≤ D.lay1 i o := le_max_right _ _

theorem Data.lay2_nonneg (i : Fin 16384) (o : Fin 256) : 0 ≤ D.lay2 i o := le_max_right _ _

end Cert.Interp
end
-- ==== Proof.Value.Kernel.lean ====
/- The kernel's result over the reals, from its arguments. -/
module

public import proofs.«01_k».proof.Proof.Value.ArrayA
public import proofs.«01_k».proof.Proof.Value.ArrayB
public import proofs.«01_k».proof.Proof.Value.ArrayC
public import proofs.«01_k».proof.Proof.Value.Corner
public import proofs.«01_k».proof.Proof.Value.Spec
public import proofs.«01_k».proof.Proof.KernelIdeal.Run
public import Idealize.ShloMosaic.Lib.Claim

@[expose] public section

set_option maxRecDepth 16384

noncomputable section

namespace Cert.Interp

open Idealize.ShloMosaic Idealize.ShloMosaic.TcCoe
open Cert.KernelIdeal Cert.KernelIdeal.Gen Cert.KernelIdeal.Hand

variable (m : (ℓ : Loc nD τ sig) → Buf (Elt Ideal) ℓ) (ρ : Dev nD → PrngReg) (c : Dev nD) (D : Data)

/-- The kernel's float arguments hold the data. -/
structure Holds : Prop where
  x : m ((c : Thread nD τ).loc main_arg0) = arr2 D.x
  p : m ((c : Thread nD τ).loc main_arg1) = lift2 D.p
  s : m ((c : Thread nD τ).loc main_arg3) = arr2 D.s
  q : m ((c : Thread nD τ).loc main_arg4) = lift2 D.q
  w1 : m ((c : Thread nD τ).loc main_arg6) = arr2 D.w1
  b1 : m ((c : Thread nD τ).loc main_arg7) = arr1 D.b1
  g1 : m ((c : Thread nD τ).loc main_arg8) = lift1 D.g1
  be1 : m ((c : Thread nD τ).loc main_arg9) = arr1 D.be1
  w2 : m ((c : Thread nD τ).loc main_arg10) = arr2 D.w2
  b2 : m ((c : Thread nD τ).loc main_arg11) = arr1 D.b2
  g2 : m ((c : Thread nD τ).loc main_arg12) = lift1 D.g2
  be2 : m ((c : Thread nD τ).loc main_arg13) = arr1 D.be2

/-- The padded query rows. -/
def Data.rows8 (i : Fin 16384) (k : Fin 8) : ℝ := if h : k.val < 3 then D.q i ⟨k.val, h⟩ else 0

/-- The padded place columns. -/
def Data.cols8 (k : Fin 8) (j : Fin 4096) : ℝ := if h : k.val < 3 then D.p j ⟨k.val, h⟩ else 0

variable {m c D}

theorem Holds.v6 (h : Holds m c D) : V1 m ρ c main_v6 = lift2 D.rows8 := by
  show StableHlo.after hostOps0 (W0 m ρ c) (Proc.devRef .tc main_v6) = _
  entry_read
  rw [W0_args m ρ c main_arg4 (by decide), h.q]
  exact corner_rows D.q _ (fun _ => rfl) _ fun _ => ofBits_zero

theorem Holds.v3 (h : Holds m c D) : V1 m ρ c main_v3 = lift2 D.cols8 := by
  show StableHlo.after hostOps0 (W0 m ρ c) (Proc.devRef .tc main_v3) = _
  entry_read
  rw [W0_args m ρ c main_arg1 (by decide), h.p]
  have e : (transpose S3x4096 [1, 0] (lift2 D.p) transposes_S4096x3_S3x4096_1_0 : FVec Ideal S3x4096 .f32) = lift2 (fun k j => D.p j k) :=
    ext2 fun k j => ValueIdx.transpose_ix2_apply (lift2 D.p) _ k j
  refine (congrArg (Host.scatter scatter_S8x4096_S1_S3x4096_01_n_0_0 (fun _ b => b) _ _) e).trans ?_
  exact corner_cols (fun k j => D.p j k) _ (fun _ => rfl) _ fun _ => ofBits_zero

theorem Holds.v7 (h : Holds m c D) : V1 m ρ c main_v7 = arr2 (fun (k : Fin 256) o => D.w1 ⟨k.val, by omega⟩ o) := by
  show StableHlo.after hostOps0 (W0 m ρ c) (Proc.devRef .tc main_v7) = _
  entry_read
  rw [W0_args m ρ c main_arg6 (by decide), h.w1]
  exact ext2 fun k o => ValueIdx.slice2_axis0_apply 0 (arr2 D.w1) _ k o ⟨k.val, by omega⟩ (Nat.zero_add _).symm

theorem Holds.v8 (h : Holds m c D) : V1 m ρ c main_v8 = arr2 (fun (k : Fin 128) o => D.w1 ⟨256 + k.val, by omega⟩ o) := by
  show StableHlo.after hostOps0 (W0 m ρ c) (Proc.devRef .tc main_v8) = _
  entry_read
  rw [W0_args m ρ c main_arg6 (by decide), h.w1]
  exact ext2 fun k o => ValueIdx.slice2_axis0_apply 256 (arr2 D.w1) _ k o ⟨256 + k.val, by omega⟩ rfl

theorem Holds.v9 (h : Holds m c D) : V1 m ρ c main_v9 = arr2 (fun (_ : Fin 1) o => D.b1 o) := by
  show StableHlo.after hostOps0 (W0 m ρ c) (Proc.devRef .tc main_v9) = _
  entry_read
  rw [W0_args m ρ c main_arg7 (by decide), h.b1]
  exact cast_row_arr D.b1 _

theorem Holds.v11 (h : Holds m c D) : V3 m ρ c main_v11 = lift2 (fun (_ : Fin 1) o => D.g1 o) := by
  show StableHlo.after hostOps1 (W2 m ρ c) (Proc.devRef .tc main_v11) = _
  entry_read
  rw [W2_args m ρ c main_arg8 (by decide), h.g1]
  exact cast_row_lift D.g1 _

theorem Holds.v12 (h : Holds m c D) : V3 m ρ c main_v12 = arr2 (fun (_ : Fin 1) o => D.be1 o) := by
  show StableHlo.after hostOps1 (W2 m ρ c) (Proc.devRef .tc main_v12) = _
  entry_read
  rw [W2_args m ρ c main_arg9 (by decide), h.be1]
  exact cast_row_arr D.be1 _

theorem Holds.v13 (h : Holds m c D) : V3 m ρ c main_v13 = arr2 (fun (_ : Fin 1) o => D.b2 o) := by
  show StableHlo.after hostOps1 (W2 m ρ c) (Proc.devRef .tc main_v13) = _
  entry_read
  rw [W2_args m ρ c main_arg11 (by decide), h.b2]
  exact cast_row_arr D.b2 _

theorem Holds.v15 (h : Holds m c D) : V5 m ρ c main_v15 = lift2 (fun (_ : Fin 1) o => D.g2 o) := by
  show StableHlo.after hostOps2 (W4 m ρ c) (Proc.devRef .tc main_v15) = _
  entry_read
  rw [W4_args m ρ c main_arg12 (by decide), h.g2]
  exact cast_row_lift D.g2 _

theorem Holds.v16 (h : Holds m c D) : V5 m ρ c main_v16 = arr2 (fun (_ : Fin 1) o => D.be2 o) := by
  show StableHlo.after hostOps2 (W4 m ρ c) (Proc.devRef .tc main_v16) = _
  entry_read
  rw [W4_args m ρ c main_arg13 (by decide), h.be2]
  exact cast_row_arr D.be2 _

/-- What the first pass reads. -/
theorem Holds.entryA (h : Holds m c D) : EntryA (V1 m ρ) c D.rows8 D.cols8 D.x D.s (fun k o => D.w1 ⟨k.val, by omega⟩ o)
    (fun k o => D.w1 ⟨256 + k.val, by omega⟩ o) (fun _ o => D.b1 o) where
  q := h.v6 ρ
  p := h.v3 ρ
  x := (W1_args m ρ c main_arg0 (by decide)).trans h.x
  s := (W1_args m ρ c main_arg3 (by decide)).trans h.s
  wa := h.v7 ρ
  wb := h.v8 ρ
  b := h.v9 ρ

/-- The padded distances are the distances. -/
theorem tileDist_padded (i : Fin 16384) : tileDist D.rows8 D.cols8 i = D.dist i := by
  funext j
  unfold tileDist Data.dist Data.rows8 Data.cols8
  rw [sum_padded (fun k => D.q i k * D.q i k), sum_padded (fun k => D.p j k * D.p j k), sum_padded (fun k => D.q i k * D.p j k)]
  all_goals intro k; split <;> simp

/-- The first pass's layer is the first layer. -/
theorem tileLay_padded : tileLay D.rows8 D.cols8 D.x D.s (fun k o => D.w1 ⟨k.val, by omega⟩ o)
    (fun k o => D.w1 ⟨256 + k.val, by omega⟩ o) (fun _ o => D.b1 o) = D.lay1 := by
  funext i o
  unfold tileLay Data.lay1 Data.feat
  rw [tileDist_padded]

/-- The second pass's layer is the second layer. -/
theorem tileLay2_norm : tileLay2 D.lay1 D.lay1 (fun _ o => D.g1 o) (fun _ o => D.be1 o) D.w2 (fun _ o => D.b2 o) = D.lay2 := by
  funext i o
  unfold tileLay2 Data.lay2
  refine congrArg (fun t => max (t + D.b2 o) 0) (Finset.sum_congr rfl fun c _ => congrArg (· * D.w2 c o) ?_)
  exact fold_colNorm (fun i => D.lay1 i c) (fun i => D.lay1_nonneg i c) (D.g1 c) (D.be1 c) i

/-- What the second pass reads. -/
theorem Holds.entryB (h : Holds m c D) : EntryB (V3 m ρ) c D.lay1 (fun _ o => D.g1 o) (fun _ o => D.be1 o) D.w2 (fun _ o => D.b2 o) where
  h := (W3_of m ρ c main_v10_0 (by decide)).trans ((W2_arr m ρ c 7).trans ((h.entryA ρ).arr7.trans (congrArg arr2 tileLay_padded)))
  s := (W3_of m ρ c main_v10_1 (by decide)).trans ((W2_arr m ρ c 8).trans ((h.entryA ρ).arr8.trans (congrArg (fun f => arr2 (stats f)) tileLay_padded)))
  g := h.v11 ρ
  be := h.v12 ρ
  w := (W3_args m ρ c main_arg10 (by decide)).trans h.w2
  b := h.v13 ρ

/-- What the third pass reads. -/
theorem Holds.entryC (h : Holds m c D) : EntryC (V5 m ρ) c D.lay2 (fun _ o => D.g2 o) (fun _ o => D.be2 o) where
  h := (W5_of m ρ c main_v14_0 (by decide)).trans ((W4_arr m ρ c 6).trans ((h.entryB ρ).arr6.trans (congrArg arr2 tileLay2_norm)))
  s := (W5_of m ρ c main_v14_1 (by decide)).trans ((W4_arr m ρ c 7).trans ((h.entryB ρ).arr7.trans (congrArg (fun f => arr2 (stats f)) tileLay2_norm)))
  g := h.v15 ρ
  be := h.v16 ρ
  nonneg := D.lay2_nonneg

/-- The kernel's first result. -/
theorem Holds.result (h : Holds m c D) : W6 m ρ c (Proc.devRef .tc main_v17) = arr2 D.out :=
  (W6_arr m ρ c 4).trans (h.entryC ρ).arr4

end Cert.Interp
end
-- ==== Proof.Value.Gather.lean ====
/- Gathering whole rows: a gather of one row per index reads the row the index names. -/
module

public import Idealize.ShloMosaic.PureOps
public import Idealize.ShloMosaic.Lib.ValueIdx

@[expose] public section

noncomputable section

namespace Cert.Interp

open Idealize.ShloMosaic

/-- Dimension numbers of a gather of whole rows of an `N × C` operand, at one row per entry of a `B × K` array of indices. -/
abbrev rowsDims (N C B K : ℕ)
    (wf : GatherDims.WF ⟨2, ![N, C]⟩ ⟨3, ![B, K, 1]⟩ ⟨3, ![B, K, C]⟩ [2] [0] [] [0] [] 2 ![1, C]) :
    GatherDims ⟨2, ![N, C]⟩ ⟨3, ![B, K, 1]⟩ ⟨3, ![B, K, C]⟩ where
  offsetDims := [2]
  collapsedSliceDims := [0]
  operandBatchingDims := []
  startIndicesBatchingDims := []
  startIndexMap := [0]
  indexVectorDim := 2
  sliceSizes := ![1, C]
  wf := wf

/-- Entry `(b, k, c)` of such a gather is entry `(n, c)` of the operand, `n` the row that index `(b, k)` names. -/
theorem gather_rows {α : Type} {N C B K : ℕ}
    (wf : GatherDims.WF ⟨2, ![N, C]⟩ ⟨3, ![B, K, 1]⟩ ⟨3, ![B, K, C]⟩ [2] [0] [] [0] [] 2 ![1, C])
    (x : (⟨2, ![N, C]⟩ : Shape).Idx → α) (idx : IVec ⟨3, ![B, K, 1]⟩ 32) (b : Fin B) (k : Fin K) (c : Fin C) (n : Fin N)
    (hn : (idx (ValueIdx.ix3 b k (0 : Fin 1))).toInt = (n.val : ℤ)) :
    Host.gather (rowsDims N C B K wf) x idx (ValueIdx.ix3 b k c) = x (ValueIdx.ix2 n c) := by
  unfold Host.gather
  refine congrArg x (funext fun a => Fin.ext ?_)
  show (rowsDims N C B K wf).start (ValueIdx.ix3 b k c) idx a + (rowsDims N C B K wf).batchCoord (ValueIdx.ix3 b k c) a
      + (rowsDims N C B K wf).offCoord (ValueIdx.ix3 b k c) a = _
  have h01 : a = 0 ∨ a = 1 := by
    match a with
    | ⟨0, _⟩ => exact Or.inl rfl
    | ⟨1, _⟩ => exact Or.inr rfl
  rw [GatherDims.batchCoord_eq_zero _ _ _ (fun h => by simp at h)]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C B K wf).startIndexMap from List.mem_singleton.mpr rfl)]
    have hsi : (rowsDims N C B K wf).siIdx (ValueIdx.ix3 b k c) ⟨List.idxOf (0 : Fin 2) (rowsDims N C B K wf).startIndexMap,
        List.idxOf_lt_length_iff.2 (List.mem_singleton.mpr rfl)⟩ = ValueIdx.ix3 b k (0 : Fin 1) := by
      funext e; refine Fin.ext ?_
      match e with
      | ⟨0, _⟩ => rfl
      | ⟨1, _⟩ => rfl
      | ⟨2, _⟩ => rfl
    rw [hsi, hn]
    show min (Int.toNat (n.val : ℤ)) (N - 1) = n.val
    have := n.isLt
    rw [Int.toNat_natCast]
    omega
  · unfold GatherDims.start
    rw [dif_neg (show ¬ (1 : Fin 2) ∈ (rowsDims N C B K wf).startIndexMap by simp)]
    simp only [Nat.zero_add, Nat.add_zero]
    rfl

end Cert.Interp

end

end
-- ==== Proof.Value.RefNear.lean ====
/- The reference's three nearest neighbours over the reals: distances, ranks, weights. -/
module

public import proofs.«01_k».proof.Proof.Gen.ReferenceIdeal.Read
public import proofs.«01_k».proof.Proof.Value.Spec
public import proofs.«01_k».proof.Proof.Value.Gather
public import Idealize.ShloMosaic.Lib.StableHlo.Predicate

@[expose] public section

set_option maxRecDepth 16384

noncomputable section

namespace Cert.Interp

open Idealize.ShloMosaic Idealize.ShloMosaic.TcCoe
open Cert.ReferenceIdeal Cert.ReferenceIdeal.Gen Cert.ReferenceIdeal.Read

/-- The `k`-th of the first three ranks, among all the ranks. -/
def rank (k : Fin 3) : Fin 4096 := ⟨k.val, lt_trans k.isLt (by norm_num)⟩

/-- Comparing two negated reals by "greater" is comparing the reals by "less". -/
theorem before_neg (a b : ℝ) :
    (FloatOps.cmpfTotal (F := Ideal) (φ := .f32) .gt ((-a : ℝ) : EReal) ((-b : ℝ) : EReal) == 1#1) = decide (a < b) := by
  show (BitVec.ofBool (decide (((-b : ℝ) : EReal) < ((-a : ℝ) : EReal))) == 1#1) = decide (a < b)
  have e : decide (((-b : ℝ) : EReal) < ((-a : ℝ) : EReal)) = decide (a < b) :=
    decide_eq_decide.mpr (EReal.coe_lt_coe_iff.trans neg_lt_neg_iff)
  rw [e]
  cases decide (a < b) <;> rfl

/-- The three greatest of a row of negated reals are the negated reals at its three nearest places, with those places. -/
theorem topk_near (x : FVec Ideal S16384x4096 .f32) (d : Fin 16384 → Fin 4096 → ℝ)
    (hx : ∀ i j, x (ValueIdx.ix2 i j) = ((-(d i j) : ℝ) : EReal)) (i : Fin 16384) (k : Fin 3) :
    (Host.topK S16384x3 1 (FloatOps.cmpfTotal .gt) x sliceFits_S16384x4096_S16384x3).1 (ValueIdx.ix2 i k)
        = ((-(d i (near (d i) (rank k))) : ℝ) : EReal)
      ∧ (Host.topK S16384x3 1 (FloatOps.cmpfTotal .gt) x sliceFits_S16384x4096_S16384x3).2 (ValueIdx.ix2 i k)
        = BitVec.ofNat 32 (near (d i) (rank k)).val := by
  have hal : ∀ k', (ValueIdx.ix2 i (rank k) : S16384x4096.Idx).along ⟨1, by decide⟩ k' = ValueIdx.ix2 i k' := fun k' => by
    funext b
    match b with
    | ⟨0, _⟩ => rfl
    | ⟨1, _⟩ => rfl
  have hsort : sortedFrom (fun k₁ k₂ => FloatOps.cmpfTotal (F := Ideal) (φ := .f32) .gt
        (x ((ValueIdx.ix2 i (rank k) : S16384x4096.Idx).along ⟨1, by decide⟩ k₁))
        (x ((ValueIdx.ix2 i (rank k) : S16384x4096.Idx).along ⟨1, by decide⟩ k₂)) == 1#1) (rank k) = near (d i) (rank k) := by
    refine congrArg (fun f => sortedFrom f (rank k)) (funext fun k₁ => funext fun k₂ => ?_)
    rw [hal, hal, hx, hx]
    exact before_neg _ _
  constructor
  · unfold Host.topK
    dsimp only
    refine (extractStridedSlice_apply _ _ _ (ValueIdx.ix2 i k) (ValueIdx.ix2 i (rank k)) (fun a => ?_)).trans ?_
    · match a with
      | ⟨0, _⟩ => exact (Nat.zero_add _).symm
      | ⟨1, _⟩ => exact (Nat.zero_add _).symm
    · unfold Host.sort2
      rw [dif_pos (show 1 < S16384x4096.rank by decide)]
      refine Eq.trans ?_ (hx i (near (d i) (rank k)))
      refine congrArg x ?_
      refine Eq.trans ?_ (hal (near (d i) (rank k)))
      exact congrArg _ hsort
  · unfold Host.topK
    dsimp only
    refine (extractStridedSlice_apply _ _ _ (ValueIdx.ix2 i k) (ValueIdx.ix2 i (rank k)) (fun a => ?_)).trans ?_
    · match a with
      | ⟨0, _⟩ => exact (Nat.zero_add _).symm
      | ⟨1, _⟩ => exact (Nat.zero_add _).symm
    · unfold Host.sort2
      rw [dif_pos (show 1 < S16384x4096.rank by decide)]
      refine Eq.trans (congrArg (fun a : S16384x4096.Idx => if hd : 1 < S16384x4096.rank then iotaInDim S16384x4096 32 ⟨1, hd⟩ a else 0#32)
        (a₂ := ValueIdx.ix2 i (near (d i) (rank k))) ?_) ?_
      · refine Eq.trans ?_ (hal (near (d i) (rank k)))
        exact congrArg _ hsort
      · dsimp only
        rw [dif_pos (show 1 < S16384x4096.rank by decide)]
        rfl

variable (D : Data) (x2 : IVec S4096 32) (x5 : IVec S16384 32)

/-- The square length of a fine point, as the reference sums it. -/
theorem ref_fine (i : Fin 16384) : val_main_v1 (F := Ideal) (lift2 D.q) (ValueIdx.ix1 i) = ((∑ k : Fin 3, D.q i k * D.q i k : ℝ) : EReal) := by
  rw [val_main_v1_apply, show val_main_cst (F := Ideal) (Shape.Idx.first h_S_) = ((0 : ℝ) : EReal) from ofBits_zero, EReal.coe_zero, zero_add, coe_sum]
  exact Finset.sum_congr rfl fun k _ => (EReal.coe_mul _ _).symm

/-- The square length of a coarse point, as the reference sums it. -/
theorem ref_coarse (j : Fin 4096) : val_main_v4 (F := Ideal) (lift2 D.p) (ValueIdx.ix1 j) = ((∑ k : Fin 3, D.p j k * D.p j k : ℝ) : EReal) := by
  rw [val_main_v4_apply, show val_main_cst_0 (F := Ideal) (Shape.Idx.first h_S_) = ((0 : ℝ) : EReal) from ofBits_zero, EReal.coe_zero, zero_add, coe_sum]
  exact Finset.sum_congr rfl fun k _ => (EReal.coe_mul _ _).symm

/-- The inner product of a fine and a coarse point. -/
theorem ref_inner (i : Fin 16384) (j : Fin 4096) :
    val_main_v10 (F := Ideal) (lift2 D.p) (lift2 D.q) (ValueIdx.ix2 i j) = ((∑ k : Fin 3, D.q i k * D.p j k : ℝ) : EReal) := by
  rw [val_main_v10_apply, coe_sum]
  refine Finset.sum_congr rfl fun k _ => ?_
  rw [val_main_v9_apply]
  exact (EReal.coe_mul _ _).symm

/-- The reference's squared distance. -/
theorem ref_dist (i : Fin 16384) (j : Fin 4096) :
    val_main_v13 (F := Ideal) (lift2 D.p) (lift2 D.q) (ValueIdx.ix2 i j) = ((D.dist i j : ℝ) : EReal) := by
  have e1 : val_main_v6 (F := Ideal) (lift2 D.q) (ValueIdx.ix2 i j) = ((∑ k : Fin 3, D.q i k * D.q i k : ℝ) : EReal) := by
    rw [val_main_v6_apply, val_main_v2_apply, ValueIdx.eq_ix1 (idx_main_v2 _)]; exact ref_fine D i
  have e2 : val_main_v7 (F := Ideal) (lift2 D.p) (ValueIdx.ix2 i j) = ((∑ k : Fin 3, D.p j k * D.p j k : ℝ) : EReal) := by
    rw [val_main_v7_apply, val_main_v5_apply, ValueIdx.eq_ix1 (idx_main_v5 _)]; exact ref_coarse D j
  have e3 : val_main_v11 (F := Ideal) (ValueIdx.ix2 i j) = ((2 : ℝ) : EReal) := by
    rw [val_main_v11_apply]; exact ofBits_two
  rw [val_main_v13_apply, val_main_v8_apply, val_main_v12_apply, e1, e2, e3, ref_inner]
  unfold Data.dist
  rw [EReal.coe_sub, EReal.coe_add, EReal.coe_mul]
  rfl

/-- With one batch the mask adds nothing: the negated masked distance is the negated distance. -/
theorem ref_masked (hb : ∀ i j, x5 (ValueIdx.ix1 i) = x2 (ValueIdx.ix1 j)) (i : Fin 16384) (j : Fin 4096) :
    val_main_v22 (F := Ideal) (lift2 D.p) x2 (lift2 D.q) x5 (ValueIdx.ix2 i j) = ((-(D.dist i j) : ℝ) : EReal) := by
  have e16 : val_main_v16 (F := Ideal) x5 (ValueIdx.ix2 i j) = x5 (ValueIdx.ix1 i) := by
    rw [val_main_v16_apply, val_main_v14_apply]
    exact congrArg x5 (ValueIdx.eq_ix1 _)
  have e17 : val_main_v17 (F := Ideal) x2 (ValueIdx.ix2 i j) = x2 (ValueIdx.ix1 j) := by
    rw [val_main_v17_apply, val_main_v15_apply]
    exact congrArg x2 (ValueIdx.eq_ix1 _)
  have e18 : val_main_v18 (F := Ideal) x2 x5 (ValueIdx.ix2 i j) = 1#1 := by
    rw [val_main_v18_apply, e16, e17, hb i j]
    simp [IntOp.cmpi]
  have e20 : val_main_v20 (F := Ideal) x2 x5 (ValueIdx.ix2 i j) = ((0 : ℝ) : EReal) := by
    rw [val_main_v20_apply, val_main_v19_apply, e18, val_main_call0_v0_apply]
    exact ofBits_zero
  rw [val_main_v22_apply, val_main_v21_apply, ref_dist, e20]
  show -(((D.dist i j : ℝ) : EReal) + ((0 : ℝ) : EReal)) = _
  rw [EReal.coe_zero, add_zero, EReal.coe_neg]

variable (hb : ∀ i j, x5 (ValueIdx.ix1 i) = x2 (ValueIdx.ix1 j))
include hb

/-- The reference's weight of the `k`-th nearest coarse point. -/
theorem ref_weight (i : Fin 16384) (k : Fin 3) :
    val_main_v28 (F := Ideal) (lift2 D.p) x2 (lift2 D.q) x5 (ValueIdx.ix2 i k)
      = ((wt (D.dist i (near (D.dist i) (rank k))) : ℝ) : EReal) := by
  have e23 : val_main_v23 (F := Ideal) (lift2 D.p) x2 (lift2 D.q) x5 (ValueIdx.ix2 i k)
      = ((D.dist i (near (D.dist i) (rank k)) : ℝ) : EReal) := by
    rw [val_main_v23_apply]
    have h := (topk_near _ D.dist (ref_masked D x2 x5 hb) i k).1
    refine (congrArg (fun z : EReal => -z) h).trans ?_
    rw [← EReal.coe_neg, neg_neg]
  have e24 : val_main_v24 (F := Ideal) (ValueIdx.ix2 i k) = ((0 : ℝ) : EReal) := by rw [val_main_v24_apply]; exact ofBits_zero
  have e27 : val_main_v27 (F := Ideal) (ValueIdx.ix2 i k) = ((1 : ℝ) : EReal) := by rw [val_main_v27_apply]; exact ofBits_one
  have ec : val_main_call1_v1 (F := Ideal) (ValueIdx.ix2 i k) = ((tiny : ℝ) : EReal) := by
    rw [val_main_call1_v1_apply]; exact ofBits_tiny
  rw [val_main_v28_apply, val_main_v26_apply, val_main_v25_apply, e23, e24, e27, ec]
  exact wt_coe _

/-- The row the reference gathers for the `k`-th nearest coarse point. -/
theorem ref_row (i : Fin 16384) (k : Fin 3) :
    val_main_v33 (F := Ideal) (lift2 D.p) x2 (lift2 D.q) x5 (ValueIdx.ix2 i k) = BitVec.ofNat 32 (near (D.dist i) (rank k)).val := by
  have e : val_main_indices (F := Ideal) (lift2 D.p) x2 (lift2 D.q) x5 (ValueIdx.ix2 i k) = BitVec.ofNat 32 (near (D.dist i) (rank k)).val :=
    (topk_near _ D.dist (ref_masked D x2 x5 hb) i k).2
  have e29 : val_main_v29 (F := Ideal) (ValueIdx.ix2 i k) = 0#32 := by rw [val_main_v29_apply]; rfl
  have e30 : val_main_v30 (F := Ideal) (lift2 D.p) x2 (lift2 D.q) x5 (ValueIdx.ix2 i k) = 0#1 := by
    rw [val_main_v30_apply, e, e29]
    have hn := (near (D.dist i) (rank k)).isLt
    generalize (near (D.dist i) (rank k)).val = n at hn
    have ht : (BitVec.ofNat 32 n).toInt = (n : ℤ) := StableHlo.Predicate.toInt_ofNat_small _ (by omega)
    have hz : ¬ (n : ℤ) < 0 := by omega
    simp [IntOp.cmpi, BitVec.slt, ht, hz]
  rw [val_main_v33_apply, e30, e]
  rfl

/-- The features the reference gathers for the `k`-th nearest coarse point. -/
theorem ref_gather (i : Fin 16384) (k : Fin 3) (c : Fin 256) :
    val_main_v35 (F := Ideal) (arr2 D.x) (lift2 D.p) x2 (lift2 D.q) x5 (ValueIdx.ix3 i k c)
      = D.x (near (D.dist i) (rank k)) c := by
  have hrow : val_main_v34 (F := Ideal) (lift2 D.p) x2 (lift2 D.q) x5 (ValueIdx.ix3 i k (0 : Fin 1))
      = BitVec.ofNat 32 (near (D.dist i) (rank k)).val := by
    rw [val_main_v34_apply]
    refine Eq.trans (congrArg _ (ValueIdx.eq_ix2 _)) (ref_row D x2 x5 hb i k)
  unfold val_main_v35
  generalize val_main_v34 (F := Ideal) (lift2 D.p) x2 (lift2 D.q) x5 = idx at hrow
  have hn := (near (D.dist i) (rank k)).isLt
  exact (gather_rows _ (arr2 D.x) idx i k c (near (D.dist i) (rank k)) (by
    rw [hrow]; exact StableHlo.Predicate.toInt_ofNat_small _ (by omega))).trans rfl

/-- The reference's interpolated feature. -/
theorem ref_feat (i : Fin 16384) (c : Fin 256) :
    val_main_v43 (F := Ideal) (arr2 D.x) (lift2 D.p) x2 (lift2 D.q) x5 (ValueIdx.ix2 i c) = D.feat i c := by
  have e39 : val_main_v39 (F := Ideal) (arr2 D.x) (lift2 D.p) x2 (lift2 D.q) x5 (ValueIdx.ix2 i c)
      = ∑ k : Fin 3, ((wt (D.dist i (near (D.dist i) (rank k))) : ℝ) : EReal) * D.x (near (D.dist i) (rank k)) c := by
    rw [val_main_v39_apply, show val_main_cst_8 (F := Ideal) (Shape.Idx.first h_S_) = ((0 : ℝ) : EReal) from ofBits_zero, EReal.coe_zero, zero_add]
    refine Finset.sum_congr rfl fun k _ => ?_
    have e37 : val_main_v37 (F := Ideal) (lift2 D.p) x2 (lift2 D.q) x5 (ValueIdx.ix3 i k c)
        = ((wt (D.dist i (near (D.dist i) (rank k))) : ℝ) : EReal) := by
      rw [val_main_v37_apply, val_main_v36_apply]
      refine Eq.trans (congrArg _ (ValueIdx.eq_ix2 _)) (ref_weight D x2 x5 hb i k)
    rw [show idx_main_v39 (ValueIdx.ix2 i c) k = ValueIdx.ix3 i k c from ValueIdx.eq_ix3 _, val_main_v38_apply, ref_gather D x2 x5 hb, e37]
    exact mul_comm _ _
  have e42 : val_main_v42 (F := Ideal) (lift2 D.p) x2 (lift2 D.q) x5 (ValueIdx.ix2 i c) = ((wsum (D.dist i) : ℝ) : EReal) := by
    rw [val_main_v42_apply, val_main_v41_apply, val_main_v40_apply,
      show val_main_cst_9 (F := Ideal) (Shape.Idx.first h_S_) = ((0 : ℝ) : EReal) from ofBits_zero, EReal.coe_zero, zero_add]
    refine Eq.trans (Finset.sum_congr rfl fun k _ => (congrArg _ (ValueIdx.eq_ix2 _)).trans (ref_weight D x2 x5 hb i k)) ?_
    rw [← coe_sum, Fin.sum_univ_three]
    rfl
  rw [val_main_v43_apply, e39, e42]
  rw [Fin.sum_univ_three]
  rfl

end Cert.Interp

end

end
-- ==== Proof.Value.RefNorm.lean ====
/- The reference's normalisation over the reals, of both layers. -/
module

public import proofs.«01_k».proof.Proof.Gen.ReferenceIdeal.Read
public import proofs.«01_k».proof.Proof.Value.Spec

@[expose] public section

set_option maxRecDepth 16384

noncomputable section

namespace Cert.Interp

open Idealize.ShloMosaic Idealize.ShloMosaic.TcCoe
open Cert.ReferenceIdeal Cert.ReferenceIdeal.Gen Cert.ReferenceIdeal.Read

/-- A column's sum over the row count is its mean. -/
theorem mean_read {a b : EReal} {f : Fin 16384 → EReal} (h : Fin 16384 → EReal) (ha : a = ((0 : ℝ) : EReal)) (hf : ∀ k, f k = h k)
    (hb : b = ((16384 : ℝ) : EReal)) : Ideal.div (a + ∑ k, f k) b = colMean h := by
  rw [ha, hb, EReal.coe_zero, zero_add, Finset.sum_congr rfl fun k _ => hf k, colMean]

/-- The sum of a column's squared deviations over the row count is its variance. -/
theorem var_read {a b : EReal} {f : Fin 16384 → EReal} (h : Fin 16384 → EReal) (ha : a = ((0 : ℝ) : EReal))
    (hf : ∀ k, f k = (h k - colMean h) * (h k - colMean h)) (hb : b = ((16384 : ℝ) : EReal)) :
    Ideal.div (a + ∑ k, f k) b = colVar h := by
  rw [ha, hb, EReal.coe_zero, zero_add, Finset.sum_congr rfl fun k _ => hf k, colVar]

/-- The row count less no correction is the row count. -/
theorem count_read {a b : EReal} (ha : a = ((16384 : ℝ) : EReal)) (hb : b = ((0 : ℝ) : EReal)) : a - b = ((16384 : ℝ) : EReal) := by
  rw [ha, hb, ← EReal.coe_sub, sub_zero]

/-- The word nought is the real nought. -/
theorem sitofp_zero : FloatOps.sitofp (F := Ideal) .f32 (0#32 : BitVec 32) = ((0 : ℝ) : EReal) := by
  show (((0#32 : BitVec 32).toInt : ℝ) : EReal) = _
  norm_num

/-- The row count is above nought. -/
theorem count_above {a b : EReal} (ha : a = ((16384 : ℝ) : EReal)) (hb : b = ((0 : ℝ) : EReal)) :
    FloatOps.cmpf (F := Ideal) (φ := .f32) .ogt a b = 1#1 := by
  rw [ha, hb]
  show BitVec.ofBool (decide (((0 : ℝ) : EReal) < ((16384 : ℝ) : EReal))) = 1#1
  rw [decide_eq_true (EReal.coe_lt_coe_iff.mpr (by norm_num))]
  rfl

variable (x0 : FVec Ideal S4096x256 .f32) (x1 : FVec Ideal S4096x3 .f32) (x2 : IVec S4096 32) (x3 : FVec Ideal S16384x128 .f32)
  (x4 : FVec Ideal S16384x3 .f32) (x5 : IVec S16384 32) (x6 : FVec Ideal S384x384 .f32) (x7 : FVec Ideal S384 .f32)

section First

variable (h : Fin 16384 → Fin 384 → EReal)
  (hh : ∀ i o, val_main_v49 (F := Ideal) x0 x1 x2 x3 x4 x5 x6 x7 (ValueIdx.ix2 i o) = h i o)
include hh

/-- The first layer's column means. -/
theorem ref_mean1 (o : Fin 384) : val_main_v52 (F := Ideal) x0 x1 x2 x3 x4 x5 x6 x7 (ValueIdx.ix1 o) = colMean (fun i => h i o) := by
  rw [val_main_v52_apply, val_main_v50_apply, val_main_v51_apply]
  exact mean_read (fun i => h i o) ofBits_zero (fun k => (congrArg _ (ValueIdx.eq_ix2 _)).trans (hh k o)) ofBits_count

/-- The first layer's deviations from the column means, as the variance takes them. -/
theorem ref_dev1 (i : Fin 16384) (o : Fin 384) :
    val_main_call3_v5 (F := Ideal) x0 x1 x2 x3 x4 x5 x6 x7 (ValueIdx.ix2 i o) = h i o - colMean (fun i => h i o) := by
  rw [val_main_call3_v5_apply, hh, val_main_call3_v4_apply, val_main_call3_v3_apply, val_main_call3_v1_apply, val_main_call3_v0_apply,
    val_main_call3_v2_apply]
  exact congrArg (fun z : EReal => h i o - z)
    (mean_read (fun i => h i o) ofBits_zero (fun k => (congrArg _ (ValueIdx.eq_ix2 _)).trans (hh k o)) ofBits_count)

/-- The first layer's column variances. -/
theorem ref_var1 (o : Fin 384) : val_main_v53 (F := Ideal) x0 x1 x2 x3 x4 x5 x6 x7 (ValueIdx.ix1 o) = colVar (fun i => h i o) := by
  have e8 : ∀ q, val_main_call3_v8 (F := Ideal) q = ((16384 : ℝ) : EReal) := fun q => by
    rw [val_main_call3_v8_apply, val_main_call3_v7_apply]
    exact count_read ofBits_count sitofp_zero
  have e12 : ∀ q, val_main_call3_v12 (F := Ideal) q = 1#1 := fun q => by
    rw [val_main_call3_v12_apply]
    exact count_above (e8 q) ofBits_zero
  have eb : broadcastInDim S384 ![] bcast_S_S384 (val_main_call3_v12 (F := Ideal)) (ValueIdx.ix1 o) = 1#1 :=
    (broadcastInDim_apply _ bcast_S_S384 (val_main_call3_v12 (F := Ideal)) (ValueIdx.ix1 o) (fun a => a.elim0) (fun a => a.elim0)).trans (e12 _)
  unfold val_main_v53
  show Scalar.select (broadcastInDim S384 ![] bcast_S_S384 (val_main_call3_v12 (F := Ideal)) (ValueIdx.ix1 o)) _ _ = _
  rw [eb]
  refine (ValueIdx.select_one _ _).trans ?_
  rw [val_main_call3_v11_apply, val_main_call3_v9_apply, val_main_call3_v10_apply]
  refine var_read (fun i => h i o) ofBits_zero (fun k => ?_) (e8 _)
  rw [show idx_main_call3_v9 (ValueIdx.ix1 o) k = ValueIdx.ix2 k o from ValueIdx.eq_ix2 _, val_main_call3_v6_apply]
  exact congrArg (fun z : EReal => z * z) (ref_dev1 x0 x1 x2 x3 x4 x5 x6 x7 h hh k o)

/-- The first layer normalised and scaled, before the offset. -/
theorem ref_norm1 (g : Fin 384 → ℝ) (i : Fin 16384) (o : Fin 384) :
    val_main_v65 (F := Ideal) x0 x1 x2 x3 x4 x5 x6 x7 (lift1 g) (ValueIdx.ix2 i o) = colNorm (fun i => h i o) (g o) i := by
  rw [val_main_v65_apply, val_main_v59_apply, val_main_v56_apply, hh, val_main_v55_apply, val_main_v54_apply,
    val_main_v58_apply, val_main_v57_apply, val_main_v64_apply, val_main_v63_apply, val_main_v62_apply,
    val_main_v61_apply, val_main_v60_apply, show idx_main_v54 (idx_main_v55 (ValueIdx.ix2 i o)) = ValueIdx.ix1 o from ValueIdx.eq_ix1 _,
    show idx_main_v63 (idx_main_v64 (ValueIdx.ix2 i o)) = ValueIdx.ix1 o from ValueIdx.eq_ix1 _]
  unfold colNorm
  refine congr (congrArg Ideal.div (congrArg (fun z : EReal => ((g o : ℝ) : EReal) * (h i o - z)) (ref_mean1 x0 x1 x2 x3 x4 x5 x6 x7 h hh o))) ?_
  exact congrArg Ideal.sqrt (congr (congrArg (fun a b : EReal => a + b) (ref_var1 x0 x1 x2 x3 x4 x5 x6 x7 h hh o)) ofBits_eps)

end First

variable (x8 : FVec Ideal S384 .f32) (x9 : FVec Ideal S384 .f32) (x10 : FVec Ideal S384x256 .f32) (x11 : FVec Ideal S256 .f32)

section Second

variable (h : Fin 16384 → Fin 256 → EReal)
  (hh : ∀ i o, val_main_v73 (F := Ideal) x0 x1 x2 x3 x4 x5 x6 x7 x8 x9 x10 x11 (ValueIdx.ix2 i o) = h i o)
include hh

/-- The second layer's column means. -/
theorem ref_mean2 (o : Fin 256) :
    val_main_v76 (F := Ideal) x0 x1 x2 x3 x4 x5 x6 x7 x8 x9 x10 x11 (ValueIdx.ix1 o) = colMean (fun i => h i o) := by
  rw [val_main_v76_apply, val_main_v74_apply, val_main_v75_apply]
  exact mean_read (fun i => h i o) ofBits_zero (fun k => (congrArg _ (ValueIdx.eq_ix2 _)).trans (hh k o)) ofBits_count

/-- The second layer's deviations from the column means, as the variance takes them. -/
theorem ref_dev2 (i : Fin 16384) (o : Fin 256) :
    val_main_call5_v5 (F := Ideal) x0 x1 x2 x3 x4 x5 x6 x7 x8 x9 x10 x11 (ValueIdx.ix2 i o) = h i o - colMean (fun i => h i o) := by
  rw [val_main_call5_v5_apply, hh, val_main_call5_v4_apply, val_main_call5_v3_apply, val_main_call5_v1_apply, val_main_call5_v0_apply,
    val_main_call5_v2_apply]
  exact congrArg (fun z : EReal => h i o - z)
    (mean_read (fun i => h i o) ofBits_zero (fun k => (congrArg _ (ValueIdx.eq_ix2 _)).trans (hh k o)) ofBits_count)

/-- The second layer's column variances. -/
theorem ref_var2 (o : Fin 256) :
    val_main_v77 (F := Ideal) x0 x1 x2 x3 x4 x5 x6 x7 x8 x9 x10 x11 (ValueIdx.ix1 o) = colVar (fun i => h i o) := by
  have e8 : ∀ q, val_main_call5_v8 (F := Ideal) q = ((16384 : ℝ) : EReal) := fun q => by
    rw [val_main_call5_v8_apply, val_main_call5_v7_apply]
    exact count_read ofBits_count sitofp_zero
  have e12 : ∀ q, val_main_call5_v12 (F := Ideal) q = 1#1 := fun q => by
    rw [val_main_call5_v12_apply]
    exact count_above (e8 q) ofBits_zero
  have eb : broadcastInDim S256 ![] bcast_S_S256 (val_main_call5_v12 (F := Ideal)) (ValueIdx.ix1 o) = 1#1 :=
    (broadcastInDim_apply _ bcast_S_S256 (val_main_call5_v12 (F := Ideal)) (ValueIdx.ix1 o) (fun a => a.elim0) (fun a => a.elim0)).trans (e12 _)
  unfold val_main_v77
  show Scalar.select (broadcastInDim S256 ![] bcast_S_S256 (val_main_call5_v12 (F := Ideal)) (ValueIdx.ix1 o)) _ _ = _
  rw [eb]
  refine (ValueIdx.select_one _ _).trans ?_
  rw [val_main_call5_v11_apply, val_main_call5_v9_apply, val_main_call5_v10_apply]
  refine var_read (fun i => h i o) ofBits_zero (fun k => ?_) (e8 _)
  rw [show idx_main_call5_v9 (ValueIdx.ix1 o) k = ValueIdx.ix2 k o from ValueIdx.eq_ix2 _, val_main_call5_v6_apply]
  exact congrArg (fun z : EReal => z * z) (ref_dev2 x0 x1 x2 x3 x4 x5 x6 x7 x8 x9 x10 x11 h hh k o)

/-- The second layer normalised and scaled, before the offset. -/
theorem ref_norm2 (g : Fin 256 → ℝ) (i : Fin 16384) (o : Fin 256) :
    val_main_v89 (F := Ideal) x0 x1 x2 x3 x4 x5 x6 x7 x8 x9 x10 x11 (lift1 g) (ValueIdx.ix2 i o)
      = colNorm (fun i => h i o) (g o) i := by
  rw [val_main_v89_apply, val_main_v83_apply, val_main_v80_apply, hh, val_main_v79_apply, val_main_v78_apply,
    val_main_v82_apply, val_main_v81_apply, val_main_v88_apply, val_main_v87_apply, val_main_v86_apply,
    val_main_v85_apply, val_main_v84_apply, show idx_main_v78 (idx_main_v79 (ValueIdx.ix2 i o)) = ValueIdx.ix1 o from ValueIdx.eq_ix1 _,
    show idx_main_v87 (idx_main_v88 (ValueIdx.ix2 i o)) = ValueIdx.ix1 o from ValueIdx.eq_ix1 _]
  unfold colNorm
  refine congr (congrArg Ideal.div (congrArg (fun z : EReal => ((g o : ℝ) : EReal) * (h i o - z))
    (ref_mean2 x0 x1 x2 x3 x4 x5 x6 x7 x8 x9 x10 x11 h hh o))) ?_
  exact congrArg Ideal.sqrt (congr (congrArg (fun a b : EReal => a + b) (ref_var2 x0 x1 x2 x3 x4 x5 x6 x7 x8 x9 x10 x11 h hh o)) ofBits_eps)

end Second

end Cert.Interp

end

end
-- ==== Proof.Value.RefOut.lean ====
/- The reference's result over the reals, from its arguments. -/
module

public import proofs.«01_k».proof.Proof.Value.RefNear
public import proofs.«01_k».proof.Proof.Value.RefNorm

@[expose] public section

set_option maxRecDepth 16384

noncomputable section

namespace Cert.Interp

open Idealize.ShloMosaic Idealize.ShloMosaic.TcCoe
open Cert.ReferenceIdeal Cert.ReferenceIdeal.Gen Cert.ReferenceIdeal.Read

/-- A product of a joined row with a matrix is the sum of the products of its two parts. -/
theorem sum_joined (a b : Fin 384 → EReal) (u : Fin 256 → EReal) (v : Fin 128 → EReal) (w : Fin 384 → EReal)
    (ha : ∀ c : Fin 256, a (Fin.castAdd 128 c) = u c) (hv : ∀ c : Fin 128, a (Fin.natAdd 256 c) = v c) (hb : ∀ c, b c = w c) :
    (∑ c, a c * b c) = (∑ c : Fin 256, u c * w (Fin.castAdd 128 c)) + (∑ c : Fin 128, v c * w (Fin.natAdd 256 c)) := by
  refine (Fin.sum_univ_add (a := 256) (b := 128) (fun c => a c * b c)).trans ?_
  refine congr (congrArg (fun s t : EReal => s + t) ?_) ?_
  · exact Finset.sum_congr rfl fun c _ => by rw [ha, hb]
  · exact Finset.sum_congr rfl fun c _ => by rw [hv, hb]

variable (D : Data) (x2 : IVec S4096 32) (x5 : IVec S16384 32) (hb : ∀ i j, x5 (ValueIdx.ix1 i) = x2 (ValueIdx.ix1 j))
include hb

/-- The joined row's first part is the interpolated features. -/
theorem ref_join_left (i : Fin 16384) (c : Fin 256) :
    val_main_v44 (F := Ideal) (arr2 D.x) (lift2 D.p) x2 (arr2 D.s) (lift2 D.q) x5 (ValueIdx.ix2 i (Fin.castAdd 128 c)) = D.feat i c := by
  unfold val_main_v44
  refine (concatenate_pair_apply_left (1 : Fin S16384x384.rank) _ _ concatenates_S16384x256_S16384x128_S16384x384_d1 _ rfl (ValueIdx.ix2 i c)
    (fun b => ?_)).trans (ref_feat D x2 x5 hb i c)
  match b with
  | ⟨0, _⟩ => rfl
  | ⟨1, _⟩ => rfl

omit hb in
/-- The joined row's second part is the skip features. -/
theorem ref_join_right (i : Fin 16384) (c : Fin 128) :
    val_main_v44 (F := Ideal) (arr2 D.x) (lift2 D.p) x2 (arr2 D.s) (lift2 D.q) x5 (ValueIdx.ix2 i (Fin.natAdd 256 c)) = D.s i c := by
  unfold val_main_v44
  refine (concatenate_pair_apply_right (1 : Fin S16384x384.rank) _ _ concatenates_S16384x256_S16384x128_S16384x384_d1 _ rfl rfl (ValueIdx.ix2 i c)
    (fun b hne => ?_) ?_).trans rfl
  · match b with
    | ⟨0, _⟩ => rfl
    | ⟨1, _⟩ => exact absurd rfl hne
  · exact Nat.add_comm _ _

/-- The first layer before the normalisation. -/
theorem ref_lay1 (i : Fin 16384) (o : Fin 384) :
    val_main_v49 (F := Ideal) (arr2 D.x) (lift2 D.p) x2 (arr2 D.s) (lift2 D.q) x5 (arr2 D.w1) (arr1 D.b1) (ValueIdx.ix2 i o)
      = D.lay1 i o := by
  have e45 : val_main_v45 (F := Ideal) (arr2 D.x) (lift2 D.p) x2 (arr2 D.s) (lift2 D.q) x5 (arr2 D.w1) (ValueIdx.ix2 i o)
      = (∑ c : Fin 256, D.feat i c * D.w1 (Fin.castAdd 128 c) o) + (∑ c : Fin 128, D.s i c * D.w1 (Fin.natAdd 256 c) o) := by
    rw [val_main_v45_apply]
    exact sum_joined _ _ (D.feat i) (D.s i) (fun c => D.w1 c o)
      (fun c => (congrArg _ (ValueIdx.eq_ix2 _)).trans (ref_join_left D x2 x5 hb i c))
      (fun c => (congrArg _ (ValueIdx.eq_ix2 _)).trans (ref_join_right D x2 x5 i c)) (fun c => rfl)
  have e47 : val_main_v47 (F := Ideal) (arr1 D.b1) (ValueIdx.ix2 i o) = D.b1 o := by
    rw [val_main_v47_apply, val_main_v46_apply]; rfl
  have e0 : val_main_call2_v0 (F := Ideal) (ValueIdx.ix2 i o) = 0 := by
    rw [val_main_call2_v0_apply]; exact Ideal.ofBits_zero_f32
  rw [val_main_v49_apply, val_main_v48_apply, e45, e47, e0]
  rfl

/-- The second layer before the normalisation. -/
theorem ref_lay2 (i : Fin 16384) (o : Fin 256) :
    val_main_v73 (F := Ideal) (arr2 D.x) (lift2 D.p) x2 (arr2 D.s) (lift2 D.q) x5 (arr2 D.w1) (arr1 D.b1) (lift1 D.g1) (arr1 D.be1)
        (arr2 D.w2) (arr1 D.b2) (ValueIdx.ix2 i o)
      = D.lay2 i o := by
  have e68 : ∀ c, val_main_v68 (F := Ideal) (arr2 D.x) (lift2 D.p) x2 (arr2 D.s) (lift2 D.q) x5 (arr2 D.w1) (arr1 D.b1) (lift1 D.g1) (arr1 D.be1)
      (ValueIdx.ix2 i c) = colNorm (fun i => D.lay1 i c) (D.g1 c) i + D.be1 c := fun c => by
    rw [val_main_v68_apply, ref_norm1 _ _ _ _ _ _ _ _ D.lay1 (ref_lay1 D x2 x5 hb) D.g1 i c, val_main_v67_apply, val_main_v66_apply]
    rfl
  have e69 : val_main_v69 (F := Ideal) (arr2 D.x) (lift2 D.p) x2 (arr2 D.s) (lift2 D.q) x5 (arr2 D.w1) (arr1 D.b1) (lift1 D.g1) (arr1 D.be1)
      (arr2 D.w2) (ValueIdx.ix2 i o)
      = ∑ c : Fin 384, (colNorm (fun i => D.lay1 i c) (D.g1 c) i + D.be1 c) * D.w2 c o := by
    rw [val_main_v69_apply]
    refine Finset.sum_congr rfl fun c _ => ?_
    exact congrArg (fun z : EReal => z * D.w2 c o) ((congrArg _ (ValueIdx.eq_ix2 _)).trans (e68 c))
  have e71 : val_main_v71 (F := Ideal) (arr1 D.b2) (ValueIdx.ix2 i o) = D.b2 o := by
    rw [val_main_v71_apply, val_main_v70_apply]; rfl
  have e0 : val_main_call4_v0 (F := Ideal) (ValueIdx.ix2 i o) = 0 := by
    rw [val_main_call4_v0_apply]; exact Ideal.ofBits_zero_f32
  rw [val_main_v73_apply, val_main_v72_apply, e69, e71, e0]
  rfl

/-- The reference's first result. -/
theorem ref_out :
    val_main_v92 (F := Ideal) (arr2 D.x) (lift2 D.p) x2 (arr2 D.s) (lift2 D.q) x5 (arr2 D.w1) (arr1 D.b1) (lift1 D.g1) (arr1 D.be1)
        (arr2 D.w2) (arr1 D.b2) (lift1 D.g2) (arr1 D.be2)
      = arr2 D.out := by
  refine ext2 fun i o => ?_
  have e91 : val_main_v91 (F := Ideal) (arr1 D.be2) (ValueIdx.ix2 i o) = D.be2 o := by
    rw [val_main_v91_apply, val_main_v90_apply]; rfl
  rw [val_main_v92_apply, ref_norm2 _ _ _ _ _ _ _ _ _ _ _ _ D.lay2 (ref_lay2 D x2 x5 hb) D.g2 i o, e91]
  rfl

end Cert.Interp

end

end
-- ==== Proof.Value.Pre.lean ====
/- What the precondition says: one batch, and the positions and the scales are reals. -/
module

public import proofs.«01_k».proof.Defs
public import proofs.«01_k».proof.Proof.Gen.Pre_one_batch_and_finite
public import proofs.«01_k».proof.Proof.Value.Kernel
public import Idealize.ShloMosaic.Lib.IdealHost

@[expose] public section

set_option maxRecDepth 16384

noncomputable section

namespace Cert.Interp

open Idealize.ShloMosaic Idealize.ShloMosaic.TcCoe
open Cert.KernelIdeal

/-- An array whose absolute values are all below the greatest value holds reals. -/
theorem finite_read {s : Shape} (x : FVec Ideal s .f32) (hs : (⟨0, ![]⟩ : Shape).BroadcastsInDim s ![])
    (h : cmpf .olt (Host.absf x) (broadcastInDim s ![] hs (constant (F := Ideal) ⟨0, ![]⟩ .f32 0x7F800000#32)) = fun _ => 1#1) (i : s.Idx) :
    x i = (((x i).toReal : ℝ) : EReal) := by
  have hi := congrFun h i
  have hi : FloatOps.cmpf (F := Ideal) (φ := .f32) .olt (max (x i) (-(x i)) : EReal)
      (broadcastInDim s ![] hs (constant (F := Ideal) ⟨0, ![]⟩ .f32 0x7F800000#32) i) = 1#1 := hi
  rw [ValueIdx.broadcastInDim_scalar_apply] at hi
  have hi : BitVec.ofBool (decide ((max (x i) (-(x i)) : EReal) < Ideal.ofBits .f32 0x7F800000#32)) = 1#1 := hi
  rw [ofBits_top] at hi
  have hlt : (max (x i) (-(x i)) : EReal) < ⊤ := by
    by_contra hn
    rw [decide_eq_false hn] at hi
    exact absurd hi (by decide)
  have h1 : x i ≠ ⊤ := fun e => by rw [e] at hlt; exact absurd hlt (by simp)
  have h2 : x i ≠ ⊥ := fun e => by rw [e] at hlt; exact absurd hlt (by simp)
  exact (EReal.coe_toReal h1 h2).symm

/-- The array of reals an array of two axes holds. -/
theorem finite_lift2 {a b : ℕ} (x : FVec Ideal ⟨2, ![a, b]⟩ .f32) (h : ∀ i, x i = (((x i).toReal : ℝ) : EReal)) :
    x = lift2 fun i j => (x (ValueIdx.ix2 i j)).toReal :=
  ext2 fun i j => h (ValueIdx.ix2 i j)

/-- The array of reals an array of one axis holds. -/
theorem finite_lift1 {a : ℕ} (x : FVec Ideal ⟨1, ![a]⟩ .f32) (h : ∀ i, x i = (((x i).toReal : ℝ) : EReal)) :
    x = lift1 fun i => (x (ValueIdx.ix1 i)).toReal :=
  funext fun i => by rw [ValueIdx.eq_ix1 i]; exact h _

/-- An array of two axes by its entries. -/
theorem entries2 {a b : ℕ} (x : FVec Ideal ⟨2, ![a, b]⟩ .f32) : x = arr2 fun i j => x (ValueIdx.ix2 i j) := ext2 fun _ _ => rfl

/-- An array of one axis by its entries. -/
theorem entries1 {a : ℕ} (x : FVec Ideal ⟨1, ![a]⟩ .f32) : x = arr1 fun i => x (ValueIdx.ix1 i) :=
  funext fun i => by rw [ValueIdx.eq_ix1 i]; rfl

/-- An array of words equal everywhere to one word holds it everywhere. -/
theorem same_read {s : Shape} (x : IVec s 32) (hs : (⟨0, ![]⟩ : Shape).BroadcastsInDim s ![]) (v : IVec ⟨0, ![]⟩ 32)
    (h : cmpi .eq x (broadcastInDim s ![] hs v) = fun _ => 1#1) (i : s.Idx) : x i = v ValueIdx.ix0 := by
  have hi := congrFun h i
  have hi : BitVec.ofBool (x i == broadcastInDim s ![] hs v i) = 1#1 := hi
  rw [ValueIdx.broadcastInDim_scalar_apply] at hi
  by_contra hn
  rw [beq_false_of_ne hn] at hi
  exact absurd hi (by decide)

variable (m : (ℓ : Loc nD τ sig) → Buf (Elt Ideal) ℓ) (c : Dev nD)

/-- The data a launch's memory holds on a device. -/
def dataOf : Data where
  x i j := m ((c : Thread nD τ).loc main_arg0) (ValueIdx.ix2 i j)
  p i j := (m ((c : Thread nD τ).loc main_arg1) (ValueIdx.ix2 i j) : EReal).toReal
  s i j := m ((c : Thread nD τ).loc main_arg3) (ValueIdx.ix2 i j)
  q i j := (m ((c : Thread nD τ).loc main_arg4) (ValueIdx.ix2 i j) : EReal).toReal
  w1 i j := m ((c : Thread nD τ).loc main_arg6) (ValueIdx.ix2 i j)
  b1 i := m ((c : Thread nD τ).loc main_arg7) (ValueIdx.ix1 i)
  g1 i := (m ((c : Thread nD τ).loc main_arg8) (ValueIdx.ix1 i) : EReal).toReal
  be1 i := m ((c : Thread nD τ).loc main_arg9) (ValueIdx.ix1 i)
  w2 i j := m ((c : Thread nD τ).loc main_arg10) (ValueIdx.ix2 i j)
  b2 i := m ((c : Thread nD τ).loc main_arg11) (ValueIdx.ix1 i)
  g2 i := (m ((c : Thread nD τ).loc main_arg12) (ValueIdx.ix1 i) : EReal).toReal
  be2 i := m ((c : Thread nD τ).loc main_arg13) (ValueIdx.ix1 i)

variable {m}

open Cert.Pre_one_batch_and_finite in
/-- Under the precondition the memory holds the data. -/
theorem holds_of_pre (h : Cert.Pre_KernelIdeal_one_batch_and_finite (hPre_one_batch_and_finite := Cert.Pre_one_batch_and_finite.Gen.facts) m) :
    Holds m c (dataOf m c) := by
  obtain ⟨-, -, h1, h4, h8, h12⟩ := h c
  exact
    { x := entries2 _
      p := finite_lift2 _ (finite_read _ Facts.bcast_S_S4096x3 h1)
      s := entries2 _
      q := finite_lift2 _ (finite_read _ Facts.bcast_S_S16384x3 h4)
      w1 := entries2 _
      b1 := entries1 _
      g1 := finite_lift1 _ (finite_read _ Facts.bcast_S_S384 h8)
      be1 := entries1 _
      w2 := entries2 _
      b2 := entries1 _
      g2 := finite_lift1 _ (finite_read _ Facts.bcast_S_S256 h12)
      be2 := entries1 _ }

open Cert.Pre_one_batch_and_finite in
/-- Under the precondition every fine point is of every coarse point's batch. -/
theorem batch_of_pre (h : Cert.Pre_KernelIdeal_one_batch_and_finite (hPre_one_batch_and_finite := Cert.Pre_one_batch_and_finite.Gen.facts) m)
    (i : Fin 16384) (j : Fin 4096) :
    (m ((c : Thread nD τ).loc main_arg5) (ValueIdx.ix1 i) : BitVec 32) = m ((c : Thread nD τ).loc main_arg2) (ValueIdx.ix1 j) := by
  obtain ⟨h2, h5, -⟩ := h c
  exact (same_read _ Facts.bcast_S_S16384 _ h5 (ValueIdx.ix1 i)).trans (same_read _ Facts.bcast_S_S4096 _ h2 (ValueIdx.ix1 j)).symm

end Cert.Interp

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_one_batch_and_finite
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.Value.Kernel
public import proofs.«01_k».proof.Proof.Value.RefOut
public import proofs.«01_k».proof.Proof.Value.Pre
public import Idealize.ShloMosaic.Adequacy
public import Idealize.ShloMosaic.Init

@[expose] public section

noncomputable section

namespace Cert.Proof

open Idealize.ShloMosaic Idealize.SL.Sem Cert.Interp

/-- The specified first result of a launch, from its memory on a device. -/
def specified (m : (ℓ : Loc Cert.KernelIdeal.nD Cert.KernelIdeal.τ Cert.KernelIdeal.sig) → Buf (Elt Ideal) ℓ) (c : Dev Cert.KernelIdeal.nD) :
    FVec Ideal Cert.KernelIdeal.S16384x256 .f32 := arr2 (dataOf m c).out

/-- The reference runs, its arguments end unchanged, and its semaphores end at nought. -/
theorem frame_reference : Cert.quiescent_ReferenceIdeal (hReferenceIdeal := Cert.ReferenceIdeal.Gen.facts) := fun m g _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m g)

/-- From a launch's memory under the precondition, and the reference's with the same arguments, the reference's first result is
    the specified array. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hP : Cert.Pre_KernelIdeal_one_batch_and_finite (hPre_one_batch_and_finite := Cert.Pre_one_batch_and_finite.Gen.facts) m)
    (hA : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (c : Dev Cert.KernelIdeal.nD) :
    Cert.ReferenceIdeal.Read.val_main_v92 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
      = specified m c := by
  obtain ⟨a0, a1, a2, a3, a4, a5, a6, a7, a8, a9, a10, a11, a12, a13⟩ := hA c
  have h := holds_of_pre c hP
  rw [a0, a1, a2, a3, a4, a5, a6, a7, a8, a9, a10, a11, a12, a13, h.x, h.p, h.s, h.q, h.w1, h.b1, h.g1, h.be1, h.w2, h.b2, h.g2, h.be2]
  exact ref_out (dataOf m c) _ _ (batch_of_pre c hP)

/-- Over the reals, under the precondition, the kernel and the reference end with the same three results. -/
theorem same_results : Cert.algebraic_KernelIdeal_ReferenceIdeal_pre_one_batch_and_finite (hKernelIdeal := Cert.KernelIdeal.Gen.facts)
    (hReferenceIdeal := Cert.ReferenceIdeal.Gen.facts) (hPre_one_batch_and_finite := Cert.Pre_one_batch_and_finite.Gen.facts) :=
  fun m g m' g' hP hA => by
    refine ⟨specified m, fun c => m ((c.tc : Thread Cert.KernelIdeal.nD Cert.KernelIdeal.τ).loc Cert.KernelIdeal.main_arg4),
      fun c => m ((c.tc : Thread Cert.KernelIdeal.nD Cert.KernelIdeal.τ).loc Cert.KernelIdeal.main_arg5), ?_, ?_⟩
    · refine (θ_run Cert.KernelIdeal.defs _ _).mono (fun r h c => ?_) (Cert.KernelIdeal.Hand.run (F := Ideal) m g)
      have hk := Cert.KernelIdeal.Hand.args_kept (r := r.2.mem) m g c (h.1 c)
      refine ⟨(h.1 c _ (Cert.KernelIdeal.Hand.mem_uc Cert.KernelIdeal.main_v17 (by decide))).trans ?_, hk.2.2.2.2.1, hk.2.2.2.2.2.1, hk⟩
      exact (holds_of_pre c hP).result g
    · refine (θ_run Cert.ReferenceIdeal.defs _ _).mono (fun r h c => ?_) (Cert.ReferenceIdeal.Value.run (F := Ideal) m' g')
      obtain ⟨h0, h4, h5, hk⟩ := h c
      refine ⟨?_, h4.trans (hA c).2.2.2.2.1, h5.trans (hA c).2.2.2.2.2.1, hk⟩
      exact (h0.trans (Cert.ReferenceIdeal.Read.val_main_v92_eq (F := Ideal) _)).trans (reference_result m m' hP hA c)

theorem claim : Cert.Claim :=
  ⟨Cert.Kernel.Gen.facts, Cert.KernelIdeal.Gen.facts, Cert.ReferenceIdeal.Gen.facts, Cert.Pre_one_batch_and_finite.Gen.facts,
    fun m g _ => Cert.Kernel.Hand.frame m g, fun m g _ => Cert.KernelIdeal.Hand.frame m g, fun m g _ => Cert.KernelIdeal.Hand.frame m g,
    frame_reference, fun m g _ => frame_reference m g trivial, trivial, same_results⟩

end Cert.Proof

end
